-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S32768x1024 : Shape := ⟨2, ![32768, 1024]⟩
abbrev S2x1024x1024 : Shape := ⟨3, ![2, 1024, 1024]⟩
abbrev S16 : Shape := ⟨1, ![16]⟩
abbrev S8 : Shape := ⟨1, ![8]⟩
abbrev S4 : Shape := ⟨1, ![4]⟩
abbrev S1 : Shape := ⟨1, ![1]⟩
abbrev S_ : Shape := ⟨0, ![]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 2
  | .vmem => 1
  | .smem => 0
  | _ => 0

abbrev bufTy : (tb : Table) → Fin (tcTables nBuf tb) → BufTy
  | .hbm, ⟨0, _⟩ => ⟨S16384x2048, .f32⟩
  | .hbm, ⟨1, _⟩ => ⟨S32768x1024, .f32⟩
  | .local _ .vmem, ⟨0, _⟩ => ⟨S2x1024x1024, .f32⟩
  | _, _ => ⟨S16384x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v35 : BitVec 32 := Scalar.muli v2 c4_i32_19
  let v36 : BitVec 32 := Scalar.addi c0_i32 v35
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_20 : BitVec 32 := 2#32
  let v37 : BitVec 32 := Scalar.muli v9 c2_i32_20
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v39 : BitVec 32 := Scalar.muli v8 c1_i32_21
  let v40 : BitVec 32 := Scalar.addi v38 v39
  v40.toNat
def k0_dev2 (d0 : Dev nD) : Nat :=
  let c0_i32_24 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_23 : BitVec 32 := 4#32
  let v41 : BitVec 32 := Scalar.muli v10 c4_i32_23
  let v42 : BitVec 32 := Scalar.addi c0_i32_24 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v43 : BitVec 32 := Scalar.muli v5 c2_i32_25
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v45 : BitVec 32 := Scalar.muli v8 c1_i32_26
  let v46 : BitVec 32 := Scalar.addi v44 v45
  v46.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v47 : BitVec 32 := Scalar.muli v2 c4_i32_28
  let v48 : BitVec 32 := Scalar.addi c0_i32_29 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v49 : BitVec 32 := Scalar.muli v5 c2_i32_30
  let v50 : BitVec 32 := Scalar.addi v48 v49
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_31 : BitVec 32 := 1#32
  let v51 : BitVec 32 := Scalar.muli v11 c1_i32_31
  let v52 : BitVec 32 := Scalar.addi v50 v51
  v52.toNat
def k0_off1 (d0 : Dev nD) (c0_i32_39 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16384_i32_36 : BitVec 32 := 16384#32
  let v59 : BitVec 32 := Scalar.muli v5 c16384_i32_36
  let c2_i32_37 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.muli c2_i32_37 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.addi v60 v8
  let c4096_i32_38 : BitVec 32 := 4096#32
  let v62 : BitVec 32 := Scalar.muli v61 c4096_i32_38
  let v63 : BitVec 32 := Scalar.addi v59 v62
  let v64 : BitVec 32 := Scalar.addi v63 c0_i32_39
  let c0_i32_46 : BitVec 32 := 0#32
  ![v64.toNat, 0]
def k0_off2 (d0 : Dev nD) (c0_i32_34 : BitVec 32) : Fin 2 → Nat :=
  let c2_i32_32 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.muli c2_i32_32 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.addi v53 v8
  let c4096_i32_33 : BitVec 32 := 4096#32
  let v55 : BitVec 32 := Scalar.muli v54 c4096_i32_33
  let v56 : BitVec 32 := Scalar.addi v55 c0_i32_34
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_35 v5
  let c1024_i32 : BitVec 32 := 1024#32
  let v58 : BitVec 32 := Scalar.muli v57 c1024_i32
  ![v56.toNat, v58.toNat]
def k0_dev4 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v65 : BitVec 32 := Scalar.muli v2 c4_i32_42
  let v66 : BitVec 32 := Scalar.addi c0_i32_43 v65
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_44 : BitVec 32 := 2#32
  let v67 : BitVec 32 := Scalar.muli v9 c2_i32_44
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v69 : BitVec 32 := Scalar.muli v8 c1_i32_45
  let v70 : BitVec 32 := Scalar.addi v68 v69
  v70.toNat
def k0_dev5 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v89 : BitVec 32 := Scalar.muli v2 c4_i32_57
  let v90 : BitVec 32 := Scalar.addi c0_i32_58 v89
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_59 : BitVec 32 := 2#32
  let v91 : BitVec 32 := Scalar.muli v9 c2_i32_59
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v93 : BitVec 32 := Scalar.muli v8 c1_i32_60
  let v94 : BitVec 32 := Scalar.addi v92 v93
  v94.toNat
def k0_dev6 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v113 : BitVec 32 := Scalar.muli v2 c4_i32_72
  let v114 : BitVec 32 := Scalar.addi c0_i32_73 v113
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_74 : BitVec 32 := 2#32
  let v115 : BitVec 32 := Scalar.muli v9 c2_i32_74
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v117 : BitVec 32 := Scalar.muli v8 c1_i32_75
  let v118 : BitVec 32 := Scalar.addi v116 v117
  v118.toNat
def k0_dev7 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v137 : BitVec 32 := Scalar.muli v2 c4_i32_87
  let v138 : BitVec 32 := Scalar.addi c0_i32_88 v137
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_89 : BitVec 32 := 2#32
  let v139 : BitVec 32 := Scalar.muli v9 c2_i32_89
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v141 : BitVec 32 := Scalar.muli v8 c1_i32_90
  let v142 : BitVec 32 := Scalar.addi v140 v141
  v142.toNat
def k0_dev8 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_103 : BitVec 32 := 4#32
  let v161 : BitVec 32 := Scalar.muli v2 c4_i32_103
  let v162 : BitVec 32 := Scalar.addi c0_i32_104 v161
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_105 : BitVec 32 := 2#32
  let v163 : BitVec 32 := Scalar.muli v9 c2_i32_105
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v165 : BitVec 32 := Scalar.muli v8 c1_i32_106
  let v166 : BitVec 32 := Scalar.addi v164 v165
  v166.toNat
def k0_dev9 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v185 : BitVec 32 := Scalar.muli v2 c4_i32_117
  let v186 : BitVec 32 := Scalar.addi c0_i32_118 v185
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_119 : BitVec 32 := 2#32
  let v187 : BitVec 32 := Scalar.muli v9 c2_i32_119
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v189 : BitVec 32 := Scalar.muli v8 c1_i32_120
  let v190 : BitVec 32 := Scalar.addi v188 v189
  v190.toNat
def k0_dev10 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v209 : BitVec 32 := Scalar.muli v2 c4_i32_131
  let v210 : BitVec 32 := Scalar.addi c0_i32_132 v209
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_133 : BitVec 32 := 2#32
  let v211 : BitVec 32 := Scalar.muli v9 c2_i32_133
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v213 : BitVec 32 := Scalar.muli v8 c1_i32_134
  let v214 : BitVec 32 := Scalar.addi v212 v213
  v214.toNat
def k0_dev11 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v233 : BitVec 32 := Scalar.muli v2 c4_i32_145
  let v234 : BitVec 32 := Scalar.addi c0_i32_146 v233
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_147 : BitVec 32 := 2#32
  let v235 : BitVec 32 := Scalar.muli v9 c2_i32_147
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v237 : BitVec 32 := Scalar.muli v8 c1_i32_148
  let v238 : BitVec 32 := Scalar.addi v236 v237
  v238.toNat
def k0_dev12 (d0 : Dev nD) : Nat :=
  let c0_i32_160 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_159 : BitVec 32 := 4#32
  let v257 : BitVec 32 := Scalar.muli v2 c4_i32_159
  let v258 : BitVec 32 := Scalar.addi c0_i32_160 v257
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_161 : BitVec 32 := 2#32
  let v259 : BitVec 32 := Scalar.muli v9 c2_i32_161
  let v260 : BitVec 32 := Scalar.addi v258 v259
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v261 : BitVec 32 := Scalar.muli v8 c1_i32_162
  let v262 : BitVec 32 := Scalar.addi v260 v261
  v262.toNat
def k0_dev13 (d0 : Dev nD) : Nat :=
  let c0_i32_174 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_173 : BitVec 32 := 4#32
  let v281 : BitVec 32 := Scalar.muli v2 c4_i32_173
  let v282 : BitVec 32 := Scalar.addi c0_i32_174 v281
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_175 : BitVec 32 := 2#32
  let v283 : BitVec 32 := Scalar.muli v9 c2_i32_175
  let v284 : BitVec 32 := Scalar.addi v282 v283
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_176 : BitVec 32 := 1#32
  let v285 : BitVec 32 := Scalar.muli v8 c1_i32_176
  let v286 : BitVec 32 := Scalar.addi v284 v285
  v286.toNat
def k0_dev14 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_187 : BitVec 32 := 4#32
  let v305 : BitVec 32 := Scalar.muli v2 c4_i32_187
  let v306 : BitVec 32 := Scalar.addi c0_i32_188 v305
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_189 : BitVec 32 := 2#32
  let v307 : BitVec 32 := Scalar.muli v9 c2_i32_189
  let v308 : BitVec 32 := Scalar.addi v306 v307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_190 : BitVec 32 := 1#32
  let v309 : BitVec 32 := Scalar.muli v8 c1_i32_190
  let v310 : BitVec 32 := Scalar.addi v308 v309
  v310.toNat
def k0_dev15 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v329 : BitVec 32 := Scalar.muli v2 c4_i32_201
  let v330 : BitVec 32 := Scalar.addi c0_i32_202 v329
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_203 : BitVec 32 := 2#32
  let v331 : BitVec 32 := Scalar.muli v9 c2_i32_203
  let v332 : BitVec 32 := Scalar.addi v330 v331
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_204 : BitVec 32 := 1#32
  let v333 : BitVec 32 := Scalar.muli v8 c1_i32_204
  let v334 : BitVec 32 := Scalar.addi v332 v333
  v334.toNat
def k0_dev16 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v353 : BitVec 32 := Scalar.muli v2 c4_i32_215
  let v354 : BitVec 32 := Scalar.addi c0_i32_216 v353
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_217 : BitVec 32 := 2#32
  let v355 : BitVec 32 := Scalar.muli v9 c2_i32_217
  let v356 : BitVec 32 := Scalar.addi v354 v355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v357 : BitVec 32 := Scalar.muli v8 c1_i32_218
  let v358 : BitVec 32 := Scalar.addi v356 v357
  v358.toNat
def k0_dev17 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v377 : BitVec 32 := Scalar.muli v2 c4_i32_229
  let v378 : BitVec 32 := Scalar.addi c0_i32_230 v377
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_231 : BitVec 32 := 2#32
  let v379 : BitVec 32 := Scalar.muli v9 c2_i32_231
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v381 : BitVec 32 := Scalar.muli v8 c1_i32_232
  let v382 : BitVec 32 := Scalar.addi v380 v381
  v382.toNat
def k0_dev18 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_243 : BitVec 32 := 4#32
  let v401 : BitVec 32 := Scalar.muli v2 c4_i32_243
  let v402 : BitVec 32 := Scalar.addi c0_i32_244 v401
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_245 : BitVec 32 := 2#32
  let v403 : BitVec 32 := Scalar.muli v9 c2_i32_245
  let v404 : BitVec 32 := Scalar.addi v402 v403
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_246 : BitVec 32 := 1#32
  let v405 : BitVec 32 := Scalar.muli v8 c1_i32_246
  let v406 : BitVec 32 := Scalar.addi v404 v405
  v406.toNat
def k0_dev19 (d0 : Dev nD) : Nat :=
  let c0_i32_258 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_257 : BitVec 32 := 4#32
  let v425 : BitVec 32 := Scalar.muli v2 c4_i32_257
  let v426 : BitVec 32 := Scalar.addi c0_i32_258 v425
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_259 : BitVec 32 := 2#32
  let v427 : BitVec 32 := Scalar.muli v9 c2_i32_259
  let v428 : BitVec 32 := Scalar.addi v426 v427
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_260 : BitVec 32 := 1#32
  let v429 : BitVec 32 := Scalar.muli v8 c1_i32_260
  let v430 : BitVec 32 := Scalar.addi v428 v429
  v430.toNat
def k0_off3 (d0 : Dev nD) : Fin 2 → Nat :=
  let c0_i32_267 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_262 : BitVec 32 := 1024#32
  let v437 : BitVec 32 := Scalar.muli v5 c1024_i32_262
  ![0, v437.toNat]
def k0_off4 (d0 : Dev nD) (c0_i32_274 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16384_i32_273 : BitVec 32 := 16384#32
  let v448 : BitVec 32 := Scalar.muli v5 c16384_i32_273
  let v449 : BitVec 32 := Scalar.addi v448 c0_i32_274
  let c0_i32_277 : BitVec 32 := 0#32
  ![v449.toNat, 0]
def k0_off5 (d0 : Dev nD) (c0_i32_280 : BitVec 32) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c16384_i32 : BitVec 32 := 16384#32
  let v13 : BitVec 32 := Scalar.muli v12 c16384_i32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_7 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c4096_i32 : BitVec 32 := 4096#32
  let v16 : BitVec 32 := Scalar.muli v15 c4096_i32
  let v17 : BitVec 32 := Scalar.addi v13 v16
  let v455 : BitVec 32 := Scalar.addi v17 c0_i32_280
  let c0_i32_287 : BitVec 32 := 0#32
  ![v455.toNat, 0]
def k0_dev20 (d0 : Dev nD) : Nat :=
  let c0_i32_292 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_291 : BitVec 32 := 4#32
  let v466 : BitVec 32 := Scalar.muli v10 c4_i32_291
  let v467 : BitVec 32 := Scalar.addi c0_i32_292 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v468 : BitVec 32 := Scalar.muli v5 c2_i32_293
  let v469 : BitVec 32 := Scalar.addi v467 v468
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_294 : BitVec 32 := 1#32
  let v470 : BitVec 32 := Scalar.muli v8 c1_i32_294
  let v471 : BitVec 32 := Scalar.addi v469 v470
  v471.toNat
def k0_dev21 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v478 : BitVec 32 := Scalar.muli v2 c4_i32_299
  let v479 : BitVec 32 := Scalar.addi c0_i32_300 v478
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v480 : BitVec 32 := Scalar.muli v5 c2_i32_301
  let v481 : BitVec 32 := Scalar.addi v479 v480
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_302 : BitVec 32 := 1#32
  let v482 : BitVec 32 := Scalar.muli v11 c1_i32_302
  let v483 : BitVec 32 := Scalar.addi v481 v482
  v483.toNat
def k0_off6 (d0 : Dev nD) : Fin 2 → Nat :=
  let c1024_i32_310 : BitVec 32 := 1024#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_305 : BitVec 32 := 1024#32
  let v490 : BitVec 32 := Scalar.muli v5 c1024_i32_305
  ![1024, v490.toNat]
def k0_dev22 (d0 : Dev nD) : Nat :=
  let c0_i32_335 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_334 : BitVec 32 := 4#32
  let v519 : BitVec 32 := Scalar.muli v10 c4_i32_334
  let v520 : BitVec 32 := Scalar.addi c0_i32_335 v519
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v521 : BitVec 32 := Scalar.muli v5 c2_i32_336
  let v522 : BitVec 32 := Scalar.addi v520 v521
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_337 : BitVec 32 := 1#32
  let v523 : BitVec 32 := Scalar.muli v8 c1_i32_337
  let v524 : BitVec 32 := Scalar.addi v522 v523
  v524.toNat
def k0_dev23 (d0 : Dev nD) : Nat :=
  let c0_i32_343 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_342 : BitVec 32 := 4#32
  let v531 : BitVec 32 := Scalar.muli v2 c4_i32_342
  let v532 : BitVec 32 := Scalar.addi c0_i32_343 v531
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_344 : BitVec 32 := 2#32
  let v533 : BitVec 32 := Scalar.muli v5 c2_i32_344
  let v534 : BitVec 32 := Scalar.addi v532 v533
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_345 : BitVec 32 := 1#32
  let v535 : BitVec 32 := Scalar.muli v11 c1_i32_345
  let v536 : BitVec 32 := Scalar.addi v534 v535
  v536.toNat
def k0_off7 (d0 : Dev nD) : Fin 2 → Nat :=
  let c2048_i32_358 : BitVec 32 := 2048#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_353 : BitVec 32 := 1024#32
  let v548 : BitVec 32 := Scalar.muli v5 c1024_i32_353
  ![2048, v548.toNat]
def k0_dev24 (d0 : Dev nD) : Nat :=
  let c0_i32_383 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_382 : BitVec 32 := 4#32
  let v577 : BitVec 32 := Scalar.muli v10 c4_i32_382
  let v578 : BitVec 32 := Scalar.addi c0_i32_383 v577
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_384 : BitVec 32 := 2#32
  let v579 : BitVec 32 := Scalar.muli v5 c2_i32_384
  let v580 : BitVec 32 := Scalar.addi v578 v579
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_385 : BitVec 32 := 1#32
  let v581 : BitVec 32 := Scalar.muli v8 c1_i32_385
  let v582 : BitVec 32 := Scalar.addi v580 v581
  v582.toNat
def k0_dev25 (d0 : Dev nD) : Nat :=
  let c0_i32_391 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_390 : BitVec 32 := 4#32
  let v589 : BitVec 32 := Scalar.muli v2 c4_i32_390
  let v590 : BitVec 32 := Scalar.addi c0_i32_391 v589
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_392 : BitVec 32 := 2#32
  let v591 : BitVec 32 := Scalar.muli v5 c2_i32_392
  let v592 : BitVec 32 := Scalar.addi v590 v591
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_393 : BitVec 32 := 1#32
  let v593 : BitVec 32 := Scalar.muli v11 c1_i32_393
  let v594 : BitVec 32 := Scalar.addi v592 v593
  v594.toNat
def k0_off8 (d0 : Dev nD) : Fin 2 → Nat :=
  let c3072_i32_406 : BitVec 32 := 3072#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_401 : BitVec 32 := 1024#32
  let v606 : BitVec 32 := Scalar.muli v5 c1024_i32_401
  ![3072, v606.toNat]
def k0_dev26 (d0 : Dev nD) : Nat :=
  let c0_i32_431 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_430 : BitVec 32 := 4#32
  let v635 : BitVec 32 := Scalar.muli v10 c4_i32_430
  let v636 : BitVec 32 := Scalar.addi c0_i32_431 v635
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_432 : BitVec 32 := 2#32
  let v637 : BitVec 32 := Scalar.muli v5 c2_i32_432
  let v638 : BitVec 32 := Scalar.addi v636 v637
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_433 : BitVec 32 := 1#32
  let v639 : BitVec 32 := Scalar.muli v8 c1_i32_433
  let v640 : BitVec 32 := Scalar.addi v638 v639
  v640.toNat
def k0_dev27 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v647 : BitVec 32 := Scalar.muli v2 c4_i32_438
  let v648 : BitVec 32 := Scalar.addi c0_i32_439 v647
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_440 : BitVec 32 := 2#32
  let v649 : BitVec 32 := Scalar.muli v5 c2_i32_440
  let v650 : BitVec 32 := Scalar.addi v648 v649
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_441 : BitVec 32 := 1#32
  let v651 : BitVec 32 := Scalar.muli v11 c1_i32_441
  let v652 : BitVec 32 := Scalar.addi v650 v651
  v652.toNat
def k0_off9 (d0 : Dev nD) : Fin 2 → Nat :=
  let c4096_i32_454 : BitVec 32 := 4096#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_449 : BitVec 32 := 1024#32
  let v664 : BitVec 32 := Scalar.muli v5 c1024_i32_449
  ![4096, v664.toNat]
def k0_dev28 (d0 : Dev nD) : Nat :=
  let c0_i32_479 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_478 : BitVec 32 := 4#32
  let v693 : BitVec 32 := Scalar.muli v10 c4_i32_478
  let v694 : BitVec 32 := Scalar.addi c0_i32_479 v693
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_480 : BitVec 32 := 2#32
  let v695 : BitVec 32 := Scalar.muli v5 c2_i32_480
  let v696 : BitVec 32 := Scalar.addi v694 v695
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_481 : BitVec 32 := 1#32
  let v697 : BitVec 32 := Scalar.muli v8 c1_i32_481
  let v698 : BitVec 32 := Scalar.addi v696 v697
  v698.toNat
def k0_dev29 (d0 : Dev nD) : Nat :=
  let c0_i32_487 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_486 : BitVec 32 := 4#32
  let v705 : BitVec 32 := Scalar.muli v2 c4_i32_486
  let v706 : BitVec 32 := Scalar.addi c0_i32_487 v705
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_488 : BitVec 32 := 2#32
  let v707 : BitVec 32 := Scalar.muli v5 c2_i32_488
  let v708 : BitVec 32 := Scalar.addi v706 v707
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_489 : BitVec 32 := 1#32
  let v709 : BitVec 32 := Scalar.muli v11 c1_i32_489
  let v710 : BitVec 32 := Scalar.addi v708 v709
  v710.toNat
def k0_off10 (d0 : Dev nD) : Fin 2 → Nat :=
  let c5120_i32 : BitVec 32 := 5120#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_497 : BitVec 32 := 1024#32
  let v722 : BitVec 32 := Scalar.muli v5 c1024_i32_497
  ![5120, v722.toNat]
def k0_dev30 (d0 : Dev nD) : Nat :=
  let c0_i32_526 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_525 : BitVec 32 := 4#32
  let v751 : BitVec 32 := Scalar.muli v10 c4_i32_525
  let v752 : BitVec 32 := Scalar.addi c0_i32_526 v751
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_527 : BitVec 32 := 2#32
  let v753 : BitVec 32 := Scalar.muli v5 c2_i32_527
  let v754 : BitVec 32 := Scalar.addi v752 v753
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_528 : BitVec 32 := 1#32
  let v755 : BitVec 32 := Scalar.muli v8 c1_i32_528
  let v756 : BitVec 32 := Scalar.addi v754 v755
  v756.toNat
def k0_dev31 (d0 : Dev nD) : Nat :=
  let c0_i32_534 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_533 : BitVec 32 := 4#32
  let v763 : BitVec 32 := Scalar.muli v2 c4_i32_533
  let v764 : BitVec 32 := Scalar.addi c0_i32_534 v763
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_535 : BitVec 32 := 2#32
  let v765 : BitVec 32 := Scalar.muli v5 c2_i32_535
  let v766 : BitVec 32 := Scalar.addi v764 v765
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_536 : BitVec 32 := 1#32
  let v767 : BitVec 32 := Scalar.muli v11 c1_i32_536
  let v768 : BitVec 32 := Scalar.addi v766 v767
  v768.toNat
def k0_off11 (d0 : Dev nD) : Fin 2 → Nat :=
  let c6144_i32 : BitVec 32 := 6144#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_544 : BitVec 32 := 1024#32
  let v780 : BitVec 32 := Scalar.muli v5 c1024_i32_544
  ![6144, v780.toNat]
def k0_dev32 (d0 : Dev nD) : Nat :=
  let c0_i32_573 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_572 : BitVec 32 := 4#32
  let v809 : BitVec 32 := Scalar.muli v10 c4_i32_572
  let v810 : BitVec 32 := Scalar.addi c0_i32_573 v809
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_574 : BitVec 32 := 2#32
  let v811 : BitVec 32 := Scalar.muli v5 c2_i32_574
  let v812 : BitVec 32 := Scalar.addi v810 v811
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_575 : BitVec 32 := 1#32
  let v813 : BitVec 32 := Scalar.muli v8 c1_i32_575
  let v814 : BitVec 32 := Scalar.addi v812 v813
  v814.toNat
def k0_dev33 (d0 : Dev nD) : Nat :=
  let c0_i32_581 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_580 : BitVec 32 := 4#32
  let v821 : BitVec 32 := Scalar.muli v2 c4_i32_580
  let v822 : BitVec 32 := Scalar.addi c0_i32_581 v821
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_582 : BitVec 32 := 2#32
  let v823 : BitVec 32 := Scalar.muli v5 c2_i32_582
  let v824 : BitVec 32 := Scalar.addi v822 v823
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_583 : BitVec 32 := 1#32
  let v825 : BitVec 32 := Scalar.muli v11 c1_i32_583
  let v826 : BitVec 32 := Scalar.addi v824 v825
  v826.toNat
def k0_off12 (d0 : Dev nD) : Fin 2 → Nat :=
  let c7168_i32 : BitVec 32 := 7168#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_591 : BitVec 32 := 1024#32
  let v838 : BitVec 32 := Scalar.muli v5 c1024_i32_591
  ![7168, v838.toNat]
def k0_dev34 (d0 : Dev nD) : Nat :=
  let c0_i32_620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_619 : BitVec 32 := 4#32
  let v867 : BitVec 32 := Scalar.muli v10 c4_i32_619
  let v868 : BitVec 32 := Scalar.addi c0_i32_620 v867
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_621 : BitVec 32 := 2#32
  let v869 : BitVec 32 := Scalar.muli v5 c2_i32_621
  let v870 : BitVec 32 := Scalar.addi v868 v869
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_622 : BitVec 32 := 1#32
  let v871 : BitVec 32 := Scalar.muli v8 c1_i32_622
  let v872 : BitVec 32 := Scalar.addi v870 v871
  v872.toNat
def k0_dev35 (d0 : Dev nD) : Nat :=
  let c0_i32_628 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_627 : BitVec 32 := 4#32
  let v879 : BitVec 32 := Scalar.muli v2 c4_i32_627
  let v880 : BitVec 32 := Scalar.addi c0_i32_628 v879
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_629 : BitVec 32 := 2#32
  let v881 : BitVec 32 := Scalar.muli v5 c2_i32_629
  let v882 : BitVec 32 := Scalar.addi v880 v881
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_630 : BitVec 32 := 1#32
  let v883 : BitVec 32 := Scalar.muli v11 c1_i32_630
  let v884 : BitVec 32 := Scalar.addi v882 v883
  v884.toNat
def k0_off13 (d0 : Dev nD) : Fin 2 → Nat :=
  let c8192_i32 : BitVec 32 := 8192#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_638 : BitVec 32 := 1024#32
  let v896 : BitVec 32 := Scalar.muli v5 c1024_i32_638
  ![8192, v896.toNat]
def k0_dev36 (d0 : Dev nD) : Nat :=
  let c0_i32_667 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_666 : BitVec 32 := 4#32
  let v925 : BitVec 32 := Scalar.muli v10 c4_i32_666
  let v926 : BitVec 32 := Scalar.addi c0_i32_667 v925
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_668 : BitVec 32 := 2#32
  let v927 : BitVec 32 := Scalar.muli v5 c2_i32_668
  let v928 : BitVec 32 := Scalar.addi v926 v927
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_669 : BitVec 32 := 1#32
  let v929 : BitVec 32 := Scalar.muli v8 c1_i32_669
  let v930 : BitVec 32 := Scalar.addi v928 v929
  v930.toNat
def k0_dev37 (d0 : Dev nD) : Nat :=
  let c0_i32_675 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_674 : BitVec 32 := 4#32
  let v937 : BitVec 32 := Scalar.muli v2 c4_i32_674
  let v938 : BitVec 32 := Scalar.addi c0_i32_675 v937
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_676 : BitVec 32 := 2#32
  let v939 : BitVec 32 := Scalar.muli v5 c2_i32_676
  let v940 : BitVec 32 := Scalar.addi v938 v939
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_677 : BitVec 32 := 1#32
  let v941 : BitVec 32 := Scalar.muli v11 c1_i32_677
  let v942 : BitVec 32 := Scalar.addi v940 v941
  v942.toNat
def k0_off14 (d0 : Dev nD) : Fin 2 → Nat :=
  let c9216_i32 : BitVec 32 := 9216#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_685 : BitVec 32 := 1024#32
  let v954 : BitVec 32 := Scalar.muli v5 c1024_i32_685
  ![9216, v954.toNat]
def k0_dev38 (d0 : Dev nD) : Nat :=
  let c0_i32_714 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_713 : BitVec 32 := 4#32
  let v983 : BitVec 32 := Scalar.muli v10 c4_i32_713
  let v984 : BitVec 32 := Scalar.addi c0_i32_714 v983
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_715 : BitVec 32 := 2#32
  let v985 : BitVec 32 := Scalar.muli v5 c2_i32_715
  let v986 : BitVec 32 := Scalar.addi v984 v985
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_716 : BitVec 32 := 1#32
  let v987 : BitVec 32 := Scalar.muli v8 c1_i32_716
  let v988 : BitVec 32 := Scalar.addi v986 v987
  v988.toNat
def k0_dev39 (d0 : Dev nD) : Nat :=
  let c0_i32_722 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_721 : BitVec 32 := 4#32
  let v995 : BitVec 32 := Scalar.muli v2 c4_i32_721
  let v996 : BitVec 32 := Scalar.addi c0_i32_722 v995
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_723 : BitVec 32 := 2#32
  let v997 : BitVec 32 := Scalar.muli v5 c2_i32_723
  let v998 : BitVec 32 := Scalar.addi v996 v997
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_724 : BitVec 32 := 1#32
  let v999 : BitVec 32 := Scalar.muli v11 c1_i32_724
  let v1000 : BitVec 32 := Scalar.addi v998 v999
  v1000.toNat
def k0_off15 (d0 : Dev nD) : Fin 2 → Nat :=
  let c10240_i32 : BitVec 32 := 10240#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_732 : BitVec 32 := 1024#32
  let v1012 : BitVec 32 := Scalar.muli v5 c1024_i32_732
  ![10240, v1012.toNat]
def k0_dev40 (d0 : Dev nD) : Nat :=
  let c0_i32_761 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_760 : BitVec 32 := 4#32
  let v1041 : BitVec 32 := Scalar.muli v10 c4_i32_760
  let v1042 : BitVec 32 := Scalar.addi c0_i32_761 v1041
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_762 : BitVec 32 := 2#32
  let v1043 : BitVec 32 := Scalar.muli v5 c2_i32_762
  let v1044 : BitVec 32 := Scalar.addi v1042 v1043
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_763 : BitVec 32 := 1#32
  let v1045 : BitVec 32 := Scalar.muli v8 c1_i32_763
  let v1046 : BitVec 32 := Scalar.addi v1044 v1045
  v1046.toNat
def k0_dev41 (d0 : Dev nD) : Nat :=
  let c0_i32_769 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_768 : BitVec 32 := 4#32
  let v1053 : BitVec 32 := Scalar.muli v2 c4_i32_768
  let v1054 : BitVec 32 := Scalar.addi c0_i32_769 v1053
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_770 : BitVec 32 := 2#32
  let v1055 : BitVec 32 := Scalar.muli v5 c2_i32_770
  let v1056 : BitVec 32 := Scalar.addi v1054 v1055
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_771 : BitVec 32 := 1#32
  let v1057 : BitVec 32 := Scalar.muli v11 c1_i32_771
  let v1058 : BitVec 32 := Scalar.addi v1056 v1057
  v1058.toNat
def k0_off16 (d0 : Dev nD) : Fin 2 → Nat :=
  let c11264_i32 : BitVec 32 := 11264#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_779 : BitVec 32 := 1024#32
  let v1070 : BitVec 32 := Scalar.muli v5 c1024_i32_779
  ![11264, v1070.toNat]
def k0_dev42 (d0 : Dev nD) : Nat :=
  let c0_i32_808 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_807 : BitVec 32 := 4#32
  let v1099 : BitVec 32 := Scalar.muli v10 c4_i32_807
  let v1100 : BitVec 32 := Scalar.addi c0_i32_808 v1099
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_809 : BitVec 32 := 2#32
  let v1101 : BitVec 32 := Scalar.muli v5 c2_i32_809
  let v1102 : BitVec 32 := Scalar.addi v1100 v1101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_810 : BitVec 32 := 1#32
  let v1103 : BitVec 32 := Scalar.muli v8 c1_i32_810
  let v1104 : BitVec 32 := Scalar.addi v1102 v1103
  v1104.toNat
def k0_dev43 (d0 : Dev nD) : Nat :=
  let c0_i32_816 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_815 : BitVec 32 := 4#32
  let v1111 : BitVec 32 := Scalar.muli v2 c4_i32_815
  let v1112 : BitVec 32 := Scalar.addi c0_i32_816 v1111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_817 : BitVec 32 := 2#32
  let v1113 : BitVec 32 := Scalar.muli v5 c2_i32_817
  let v1114 : BitVec 32 := Scalar.addi v1112 v1113
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_818 : BitVec 32 := 1#32
  let v1115 : BitVec 32 := Scalar.muli v11 c1_i32_818
  let v1116 : BitVec 32 := Scalar.addi v1114 v1115
  v1116.toNat
def k0_off17 (d0 : Dev nD) : Fin 2 → Nat :=
  let c12288_i32 : BitVec 32 := 12288#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_826 : BitVec 32 := 1024#32
  let v1128 : BitVec 32 := Scalar.muli v5 c1024_i32_826
  ![12288, v1128.toNat]
def k0_dev44 (d0 : Dev nD) : Nat :=
  let c0_i32_855 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_854 : BitVec 32 := 4#32
  let v1157 : BitVec 32 := Scalar.muli v10 c4_i32_854
  let v1158 : BitVec 32 := Scalar.addi c0_i32_855 v1157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_856 : BitVec 32 := 2#32
  let v1159 : BitVec 32 := Scalar.muli v5 c2_i32_856
  let v1160 : BitVec 32 := Scalar.addi v1158 v1159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_857 : BitVec 32 := 1#32
  let v1161 : BitVec 32 := Scalar.muli v8 c1_i32_857
  let v1162 : BitVec 32 := Scalar.addi v1160 v1161
  v1162.toNat
def k0_dev45 (d0 : Dev nD) : Nat :=
  let c0_i32_863 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_862 : BitVec 32 := 4#32
  let v1169 : BitVec 32 := Scalar.muli v2 c4_i32_862
  let v1170 : BitVec 32 := Scalar.addi c0_i32_863 v1169
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_864 : BitVec 32 := 2#32
  let v1171 : BitVec 32 := Scalar.muli v5 c2_i32_864
  let v1172 : BitVec 32 := Scalar.addi v1170 v1171
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_865 : BitVec 32 := 1#32
  let v1173 : BitVec 32 := Scalar.muli v11 c1_i32_865
  let v1174 : BitVec 32 := Scalar.addi v1172 v1173
  v1174.toNat
def k0_off18 (d0 : Dev nD) : Fin 2 → Nat :=
  let c13312_i32 : BitVec 32 := 13312#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_873 : BitVec 32 := 1024#32
  let v1186 : BitVec 32 := Scalar.muli v5 c1024_i32_873
  ![13312, v1186.toNat]
def k0_dev46 (d0 : Dev nD) : Nat :=
  let c0_i32_902 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_901 : BitVec 32 := 4#32
  let v1215 : BitVec 32 := Scalar.muli v10 c4_i32_901
  let v1216 : BitVec 32 := Scalar.addi c0_i32_902 v1215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_903 : BitVec 32 := 2#32
  let v1217 : BitVec 32 := Scalar.muli v5 c2_i32_903
  let v1218 : BitVec 32 := Scalar.addi v1216 v1217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_904 : BitVec 32 := 1#32
  let v1219 : BitVec 32 := Scalar.muli v8 c1_i32_904
  let v1220 : BitVec 32 := Scalar.addi v1218 v1219
  v1220.toNat
def k0_dev47 (d0 : Dev nD) : Nat :=
  let c0_i32_910 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_909 : BitVec 32 := 4#32
  let v1227 : BitVec 32 := Scalar.muli v2 c4_i32_909
  let v1228 : BitVec 32 := Scalar.addi c0_i32_910 v1227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_911 : BitVec 32 := 2#32
  let v1229 : BitVec 32 := Scalar.muli v5 c2_i32_911
  let v1230 : BitVec 32 := Scalar.addi v1228 v1229
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_912 : BitVec 32 := 1#32
  let v1231 : BitVec 32 := Scalar.muli v11 c1_i32_912
  let v1232 : BitVec 32 := Scalar.addi v1230 v1231
  v1232.toNat
def k0_off19 (d0 : Dev nD) : Fin 2 → Nat :=
  let c14336_i32 : BitVec 32 := 14336#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_920 : BitVec 32 := 1024#32
  let v1244 : BitVec 32 := Scalar.muli v5 c1024_i32_920
  ![14336, v1244.toNat]
def k0_dev48 (d0 : Dev nD) : Nat :=
  let c0_i32_949 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_948 : BitVec 32 := 4#32
  let v1273 : BitVec 32 := Scalar.muli v10 c4_i32_948
  let v1274 : BitVec 32 := Scalar.addi c0_i32_949 v1273
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_950 : BitVec 32 := 2#32
  let v1275 : BitVec 32 := Scalar.muli v5 c2_i32_950
  let v1276 : BitVec 32 := Scalar.addi v1274 v1275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_951 : BitVec 32 := 1#32
  let v1277 : BitVec 32 := Scalar.muli v8 c1_i32_951
  let v1278 : BitVec 32 := Scalar.addi v1276 v1277
  v1278.toNat
def k0_dev49 (d0 : Dev nD) : Nat :=
  let c0_i32_957 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_956 : BitVec 32 := 4#32
  let v1285 : BitVec 32 := Scalar.muli v2 c4_i32_956
  let v1286 : BitVec 32 := Scalar.addi c0_i32_957 v1285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_958 : BitVec 32 := 2#32
  let v1287 : BitVec 32 := Scalar.muli v5 c2_i32_958
  let v1288 : BitVec 32 := Scalar.addi v1286 v1287
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_959 : BitVec 32 := 1#32
  let v1289 : BitVec 32 := Scalar.muli v11 c1_i32_959
  let v1290 : BitVec 32 := Scalar.addi v1288 v1289
  v1290.toNat
def k0_off20 (d0 : Dev nD) : Fin 2 → Nat :=
  let c15360_i32 : BitVec 32 := 15360#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_967 : BitVec 32 := 1024#32
  let v1302 : BitVec 32 := Scalar.muli v5 c1024_i32_967
  ![15360, v1302.toNat]
def k0_dev50 (d0 : Dev nD) : Nat :=
  let c0_i32_996 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_995 : BitVec 32 := 4#32
  let v1331 : BitVec 32 := Scalar.muli v10 c4_i32_995
  let v1332 : BitVec 32 := Scalar.addi c0_i32_996 v1331
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_997 : BitVec 32 := 2#32
  let v1333 : BitVec 32 := Scalar.muli v5 c2_i32_997
  let v1334 : BitVec 32 := Scalar.addi v1332 v1333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_998 : BitVec 32 := 1#32
  let v1335 : BitVec 32 := Scalar.muli v8 c1_i32_998
  let v1336 : BitVec 32 := Scalar.addi v1334 v1335
  v1336.toNat
def k0_dev51 (d0 : Dev nD) : Nat :=
  let c0_i32_1004 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1003 : BitVec 32 := 4#32
  let v1343 : BitVec 32 := Scalar.muli v2 c4_i32_1003
  let v1344 : BitVec 32 := Scalar.addi c0_i32_1004 v1343
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1005 : BitVec 32 := 2#32
  let v1345 : BitVec 32 := Scalar.muli v5 c2_i32_1005
  let v1346 : BitVec 32 := Scalar.addi v1344 v1345
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1006 : BitVec 32 := 1#32
  let v1347 : BitVec 32 := Scalar.muli v11 c1_i32_1006
  let v1348 : BitVec 32 := Scalar.addi v1346 v1347
  v1348.toNat
def k0_off21 (d0 : Dev nD) (c0_i32_1009 : BitVec 32) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c16384_i32 : BitVec 32 := 16384#32
  let v13 : BitVec 32 := Scalar.muli v12 c16384_i32
  let c2_i32_9 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_8 v2
  let v19 : BitVec 32 := Scalar.muli c2_i32_9 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.addi v19 v8
  let c4096_i32_10 : BitVec 32 := 4096#32
  let v21 : BitVec 32 := Scalar.muli v20 c4096_i32_10
  let v22 : BitVec 32 := Scalar.addi v13 v21
  let v1355 : BitVec 32 := Scalar.addi v22 c0_i32_1009
  let c0_i32_1016 : BitVec 32 := 0#32
  ![v1355.toNat, 0]
def k0_dev52 (d0 : Dev nD) : Nat :=
  let c0_i32_1021 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1020 : BitVec 32 := 4#32
  let v1366 : BitVec 32 := Scalar.muli v2 c4_i32_1020
  let v1367 : BitVec 32 := Scalar.addi c0_i32_1021 v1366
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1022 : BitVec 32 := 2#32
  let v1368 : BitVec 32 := Scalar.muli v5 c2_i32_1022
  let v1369 : BitVec 32 := Scalar.addi v1367 v1368
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1023 : BitVec 32 := 1#32
  let v1370 : BitVec 32 := Scalar.muli v11 c1_i32_1023
  let v1371 : BitVec 32 := Scalar.addi v1369 v1370
  v1371.toNat
def k0_off22 (d0 : Dev nD) (c0_i32_1026 : BitVec 32) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c16384_i32 : BitVec 32 := 16384#32
  let v13 : BitVec 32 := Scalar.muli v12 c16384_i32
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v25 : BitVec 32 := Scalar.addi v23 v24
  let c4096_i32_13 : BitVec 32 := 4096#32
  let v26 : BitVec 32 := Scalar.muli v25 c4096_i32_13
  let v27 : BitVec 32 := Scalar.addi v13 v26
  let v1378 : BitVec 32 := Scalar.addi v27 c0_i32_1026
  let c0_i32_1033 : BitVec 32 := 0#32
  ![v1378.toNat, 0]
def k0_dev53 (d0 : Dev nD) : Nat :=
  let c0_i32_1056 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1055 : BitVec 32 := 4#32
  let v1411 : BitVec 32 := Scalar.muli v10 c4_i32_1055
  let v1412 : BitVec 32 := Scalar.addi c0_i32_1056 v1411
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1057 : BitVec 32 := 2#32
  let v1413 : BitVec 32 := Scalar.muli v5 c2_i32_1057
  let v1414 : BitVec 32 := Scalar.addi v1412 v1413
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1058 : BitVec 32 := 1#32
  let v1415 : BitVec 32 := Scalar.muli v8 c1_i32_1058
  let v1416 : BitVec 32 := Scalar.addi v1414 v1415
  v1416.toNat
def k0_dev54 (d0 : Dev nD) : Nat :=
  let c0_i32_1073 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1072 : BitVec 32 := 4#32
  let v1434 : BitVec 32 := Scalar.muli v2 c4_i32_1072
  let v1435 : BitVec 32 := Scalar.addi c0_i32_1073 v1434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1074 : BitVec 32 := 2#32
  let v1436 : BitVec 32 := Scalar.muli v5 c2_i32_1074
  let v1437 : BitVec 32 := Scalar.addi v1435 v1436
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1075 : BitVec 32 := 1#32
  let v1438 : BitVec 32 := Scalar.muli v11 c1_i32_1075
  let v1439 : BitVec 32 := Scalar.addi v1437 v1438
  v1439.toNat
def k0_dev55 (d0 : Dev nD) : Nat :=
  let c0_i32_1108 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1107 : BitVec 32 := 4#32
  let v1479 : BitVec 32 := Scalar.muli v10 c4_i32_1107
  let v1480 : BitVec 32 := Scalar.addi c0_i32_1108 v1479
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1109 : BitVec 32 := 2#32
  let v1481 : BitVec 32 := Scalar.muli v5 c2_i32_1109
  let v1482 : BitVec 32 := Scalar.addi v1480 v1481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1110 : BitVec 32 := 1#32
  let v1483 : BitVec 32 := Scalar.muli v8 c1_i32_1110
  let v1484 : BitVec 32 := Scalar.addi v1482 v1483
  v1484.toNat
def k0_dev56 (d0 : Dev nD) : Nat :=
  let c0_i32_1125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1124 : BitVec 32 := 4#32
  let v1502 : BitVec 32 := Scalar.muli v2 c4_i32_1124
  let v1503 : BitVec 32 := Scalar.addi c0_i32_1125 v1502
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1126 : BitVec 32 := 2#32
  let v1504 : BitVec 32 := Scalar.muli v5 c2_i32_1126
  let v1505 : BitVec 32 := Scalar.addi v1503 v1504
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1127 : BitVec 32 := 1#32
  let v1506 : BitVec 32 := Scalar.muli v11 c1_i32_1127
  let v1507 : BitVec 32 := Scalar.addi v1505 v1506
  v1507.toNat
def k0_dev57 (d0 : Dev nD) : Nat :=
  let c0_i32_1160 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1159 : BitVec 32 := 4#32
  let v1547 : BitVec 32 := Scalar.muli v10 c4_i32_1159
  let v1548 : BitVec 32 := Scalar.addi c0_i32_1160 v1547
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1161 : BitVec 32 := 2#32
  let v1549 : BitVec 32 := Scalar.muli v5 c2_i32_1161
  let v1550 : BitVec 32 := Scalar.addi v1548 v1549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1162 : BitVec 32 := 1#32
  let v1551 : BitVec 32 := Scalar.muli v8 c1_i32_1162
  let v1552 : BitVec 32 := Scalar.addi v1550 v1551
  v1552.toNat
def k0_dev58 (d0 : Dev nD) : Nat :=
  let c0_i32_1177 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1176 : BitVec 32 := 4#32
  let v1570 : BitVec 32 := Scalar.muli v2 c4_i32_1176
  let v1571 : BitVec 32 := Scalar.addi c0_i32_1177 v1570
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1178 : BitVec 32 := 2#32
  let v1572 : BitVec 32 := Scalar.muli v5 c2_i32_1178
  let v1573 : BitVec 32 := Scalar.addi v1571 v1572
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1179 : BitVec 32 := 1#32
  let v1574 : BitVec 32 := Scalar.muli v11 c1_i32_1179
  let v1575 : BitVec 32 := Scalar.addi v1573 v1574
  v1575.toNat
def k0_dev59 (d0 : Dev nD) : Nat :=
  let c0_i32_1212 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1211 : BitVec 32 := 4#32
  let v1615 : BitVec 32 := Scalar.muli v10 c4_i32_1211
  let v1616 : BitVec 32 := Scalar.addi c0_i32_1212 v1615
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1213 : BitVec 32 := 2#32
  let v1617 : BitVec 32 := Scalar.muli v5 c2_i32_1213
  let v1618 : BitVec 32 := Scalar.addi v1616 v1617
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1214 : BitVec 32 := 1#32
  let v1619 : BitVec 32 := Scalar.muli v8 c1_i32_1214
  let v1620 : BitVec 32 := Scalar.addi v1618 v1619
  v1620.toNat
def k0_dev60 (d0 : Dev nD) : Nat :=
  let c0_i32_1229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1228 : BitVec 32 := 4#32
  let v1638 : BitVec 32 := Scalar.muli v2 c4_i32_1228
  let v1639 : BitVec 32 := Scalar.addi c0_i32_1229 v1638
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1230 : BitVec 32 := 2#32
  let v1640 : BitVec 32 := Scalar.muli v5 c2_i32_1230
  let v1641 : BitVec 32 := Scalar.addi v1639 v1640
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1231 : BitVec 32 := 1#32
  let v1642 : BitVec 32 := Scalar.muli v11 c1_i32_1231
  let v1643 : BitVec 32 := Scalar.addi v1641 v1642
  v1643.toNat
def k0_dev61 (d0 : Dev nD) : Nat :=
  let c0_i32_1264 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1263 : BitVec 32 := 4#32
  let v1683 : BitVec 32 := Scalar.muli v10 c4_i32_1263
  let v1684 : BitVec 32 := Scalar.addi c0_i32_1264 v1683
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1265 : BitVec 32 := 2#32
  let v1685 : BitVec 32 := Scalar.muli v5 c2_i32_1265
  let v1686 : BitVec 32 := Scalar.addi v1684 v1685
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1266 : BitVec 32 := 1#32
  let v1687 : BitVec 32 := Scalar.muli v8 c1_i32_1266
  let v1688 : BitVec 32 := Scalar.addi v1686 v1687
  v1688.toNat
def k0_dev62 (d0 : Dev nD) : Nat :=
  let c0_i32_1281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1280 : BitVec 32 := 4#32
  let v1706 : BitVec 32 := Scalar.muli v2 c4_i32_1280
  let v1707 : BitVec 32 := Scalar.addi c0_i32_1281 v1706
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1282 : BitVec 32 := 2#32
  let v1708 : BitVec 32 := Scalar.muli v5 c2_i32_1282
  let v1709 : BitVec 32 := Scalar.addi v1707 v1708
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1283 : BitVec 32 := 1#32
  let v1710 : BitVec 32 := Scalar.muli v11 c1_i32_1283
  let v1711 : BitVec 32 := Scalar.addi v1709 v1710
  v1711.toNat
def k0_dev63 (d0 : Dev nD) : Nat :=
  let c0_i32_1316 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1315 : BitVec 32 := 4#32
  let v1751 : BitVec 32 := Scalar.muli v10 c4_i32_1315
  let v1752 : BitVec 32 := Scalar.addi c0_i32_1316 v1751
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1317 : BitVec 32 := 2#32
  let v1753 : BitVec 32 := Scalar.muli v5 c2_i32_1317
  let v1754 : BitVec 32 := Scalar.addi v1752 v1753
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1318 : BitVec 32 := 1#32
  let v1755 : BitVec 32 := Scalar.muli v8 c1_i32_1318
  let v1756 : BitVec 32 := Scalar.addi v1754 v1755
  v1756.toNat
def k0_dev64 (d0 : Dev nD) : Nat :=
  let c0_i32_1333 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1332 : BitVec 32 := 4#32
  let v1774 : BitVec 32 := Scalar.muli v2 c4_i32_1332
  let v1775 : BitVec 32 := Scalar.addi c0_i32_1333 v1774
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1334 : BitVec 32 := 2#32
  let v1776 : BitVec 32 := Scalar.muli v5 c2_i32_1334
  let v1777 : BitVec 32 := Scalar.addi v1775 v1776
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1335 : BitVec 32 := 1#32
  let v1778 : BitVec 32 := Scalar.muli v11 c1_i32_1335
  let v1779 : BitVec 32 := Scalar.addi v1777 v1778
  v1779.toNat
def k0_dev65 (d0 : Dev nD) : Nat :=
  let c0_i32_1368 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1367 : BitVec 32 := 4#32
  let v1819 : BitVec 32 := Scalar.muli v10 c4_i32_1367
  let v1820 : BitVec 32 := Scalar.addi c0_i32_1368 v1819
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1369 : BitVec 32 := 2#32
  let v1821 : BitVec 32 := Scalar.muli v5 c2_i32_1369
  let v1822 : BitVec 32 := Scalar.addi v1820 v1821
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1370 : BitVec 32 := 1#32
  let v1823 : BitVec 32 := Scalar.muli v8 c1_i32_1370
  let v1824 : BitVec 32 := Scalar.addi v1822 v1823
  v1824.toNat
def k0_dev66 (d0 : Dev nD) : Nat :=
  let c0_i32_1385 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1384 : BitVec 32 := 4#32
  let v1842 : BitVec 32 := Scalar.muli v2 c4_i32_1384
  let v1843 : BitVec 32 := Scalar.addi c0_i32_1385 v1842
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1386 : BitVec 32 := 2#32
  let v1844 : BitVec 32 := Scalar.muli v5 c2_i32_1386
  let v1845 : BitVec 32 := Scalar.addi v1843 v1844
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1387 : BitVec 32 := 1#32
  let v1846 : BitVec 32 := Scalar.muli v11 c1_i32_1387
  let v1847 : BitVec 32 := Scalar.addi v1845 v1846
  v1847.toNat
def k0_dev67 (d0 : Dev nD) : Nat :=
  let c0_i32_1420 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1419 : BitVec 32 := 4#32
  let v1887 : BitVec 32 := Scalar.muli v10 c4_i32_1419
  let v1888 : BitVec 32 := Scalar.addi c0_i32_1420 v1887
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1421 : BitVec 32 := 2#32
  let v1889 : BitVec 32 := Scalar.muli v5 c2_i32_1421
  let v1890 : BitVec 32 := Scalar.addi v1888 v1889
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1422 : BitVec 32 := 1#32
  let v1891 : BitVec 32 := Scalar.muli v8 c1_i32_1422
  let v1892 : BitVec 32 := Scalar.addi v1890 v1891
  v1892.toNat
def k0_off23 (d0 : Dev nD) (c0_i32_1425 : BitVec 32) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c16384_i32 : BitVec 32 := 16384#32
  let v13 : BitVec 32 := Scalar.muli v12 c16384_i32
  let c2_i32_15 : BitVec 32 := 2#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v28 : BitVec 32 := Scalar.subi c1_i32_14 v2
  let v29 : BitVec 32 := Scalar.muli c2_i32_15 v28
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_16 v8
  let v31 : BitVec 32 := Scalar.addi v29 v30
  let c4096_i32_17 : BitVec 32 := 4096#32
  let v32 : BitVec 32 := Scalar.muli v31 c4096_i32_17
  let v33 : BitVec 32 := Scalar.addi v13 v32
  let v1899 : BitVec 32 := Scalar.addi v33 c0_i32_1425
  let c0_i32_1432 : BitVec 32 := 0#32
  ![v1899.toNat, 0]
-- ==== ReferenceIdeal.lean ====
abbrev S32768x2048 : Shape := ⟨2, ![32768, 2048]⟩

abbrev nBuf : Space → Nat
  | .hbm => 1
  | .vmem => 0
  | .smem => 0
  | _ => 0

abbrev bufTy : (tb : Table) → Fin (tcTables nBuf tb) → BufTy
  | .hbm, ⟨0, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ref.lean ====
/- The run of the reference on one device: it has no operation, so its argument, which is also its result, is left as
   it was. -/
module

public import proofs.«01_k».proof.ReferenceIdeal
public import Idealize.ShloMosaic.Lib.StableHlo.Run
public import Idealize.ShloMosaic.Lib.Quiescent

@[expose] public section

noncomputable section

namespace Cert.A2A.Ref

open Cert.ReferenceIdeal
open Idealize.ShloMosaic Idealize.ShloMosaic.StableHlo Idealize.SL.Sem

variable {F : FTy → Type} [FloatOps F] [Cert.ReferenceIdeal.Facts]

/-- The reference ends from any memory with its array unchanged and no semaphore counting anything. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0))
        ∧ r.2.sem = fun _ => 0) :=
  (θ_run defs _ _).mono (fun r h => ⟨fun c => h c main_arg0, sem_eq_zero_of_no_sems rfl r.2⟩)
    (run_seq (by decide) (by decide) defs main (fun _ => []) (fun _ => rfl) (fun _ => trivial) m ρ)

end Cert.A2A.Ref

end
-- ==== Proof.Text.lean ====
/-
The kernel's text as a list of operations.

The printed body is one long unrolled sequence. This module writes the same sequence as loops over the
chunk number: a list of operations per step of a loop, the loops one after the other. `body_eq` says that the
printed body on device `d` is exactly that list, run in order after the device has read its own number.
-/
module

public import proofs.«01_k».proof.Proof.Gen.KernelIdeal

@[expose] public section

noncomputable section

namespace Cert.A2A

open Cert.KernelIdeal Cert.KernelIdeal.Gen
open Idealize.ShloMosaic Idealize.SL.Sem

variable {F : FTy → Type} [FloatOps F]

/-- One operation of the kernel: it returns nothing. -/
abbrev Op (F : FTy → Type) := TpuEff nD τ sig (Elt F) Λ₀ .tc PUnit

/-- Run a list of operations in order. -/
def run : List (Op F) → Prog (TpuEff nD τ sig (Elt F) Λ₀ .tc) PUnit
  | [] => .ret ⟨⟩
  | e :: l => .op e fun _ => run l

/-- No operation does nothing, -/
theorem run_nil : run ([] : List (Op F)) = .ret ⟨⟩ := rfl
/-- and the first is run before the others. -/
theorem run_cons (e : Op F) (l : List (Op F)) : run (e :: l) = .op e fun _ => run l := rfl

/-! ## Views -/

/-- The argument, -/
abbrev xM : Memref sig .tc .hbm S16384x2048 .f32 := Memref.whole main_arg0
/-- the result -/
abbrev oM : Memref sig .tc .hbm S32768x1024 .f32 := Memref.whole main_v1
/-- and the staging buffer. -/
abbrev vM : Memref sig .tc .vmem S2x1024x1024 .f32 := Memref.whole cc0_scratch0

/-- 256 rows of the result, from the offset `off`. -/
abbrev oRow (off : Fin 2 → ℕ) (h : ∀ a, off a + S256x1024.size a ≤ S32768x1024.size a) : Memref sig .tc .hbm S256x1024 .f32 :=
  oM.slice (Rect.unit (s := S32768x1024) off S256x1024.size h) (fun _ => rfl)
/-- 1024 rows of the result, from the offset `off`. -/
abbrev oBig (off : Fin 2 → ℕ) (h : ∀ a, off a + S1024x1024.size a ≤ S32768x1024.size a) : Memref sig .tc .hbm S1024x1024 .f32 :=
  oM.slice (Rect.unit (s := S32768x1024) off S1024x1024.size h) (fun _ => rfl)
/-- 256 rows and 1024 columns of the argument, from the offset `off`. -/
abbrev xRow (off : Fin 2 → ℕ) (h : ∀ a, off a + S256x1024.size a ≤ S16384x2048.size a) : Memref sig .tc .hbm S256x1024 .f32 :=
  xM.slice (Rect.unit (s := S16384x2048) off S256x1024.size h) (fun _ => rfl)
/-- 1024 rows and 1024 columns of the argument, from the offset `off`. -/
abbrev xBig (off : Fin 2 → ℕ) (h : ∀ a, off a + S1024x1024.size a ≤ S16384x2048.size a) : Memref sig .tc .hbm S1024x1024 .f32 :=
  xM.slice (Rect.unit (s := S16384x2048) off S1024x1024.size h) (fun _ => rfl)

/-- The two halves lie in the staging buffer. -/
theorem vbuf_inb : ∀ (b : Fin 2) a, (![b.val, 0, 0] : Fin 3 → ℕ) a + S1x1024x1024.size a ≤ S2x1024x1024.size a := by decide
/-- Half `b` of the staging buffer, as a 1024 by 1024 block. -/
abbrev vBuf (b : Fin 2) : Memref sig .tc .vmem S1024x1024 .f32 :=
  (vM.slice (Rect.unit (s := S2x1024x1024) ![b.val, 0, 0] S1x1024x1024.size (vbuf_inb b)) (fun _ => rfl)).squeeze S1024x1024 squeezes_S1x1024x1024_S1024x1024

/-- Semaphore `k` is in an array of sixteen, -/
theorem inb16 : ∀ (k : Fin 16) a, (![k.val] : Fin 1 → ℕ) a + S1.size a ≤ S16.size a := by decide
/-- of eight, -/
theorem inb8 : ∀ (k : Fin 8) a, (![k.val] : Fin 1 → ℕ) a + S1.size a ≤ S8.size a := by decide
/-- of four. -/
theorem inb4 : ∀ (k : Fin 4) a, (![k.val] : Fin 1 → ℕ) a + S1.size a ≤ S4.size a := by decide

/-- Semaphore `k` of an array of sixteen, of eight, of four. -/
abbrev sem16 (s : DmaSems sig S16) (k : Fin 16) : DmaSem sig := ((s.slice (Rect.unit (s := S16) ![k.val] S1.size (inb16 k))).squeeze S_ squeezes_S1_S_).sem
/-- The same of an array of eight -/
abbrev sem8 (s : DmaSems sig S8) (k : Fin 8) : DmaSem sig := ((s.slice (Rect.unit (s := S8) ![k.val] S1.size (inb8 k))).squeeze S_ squeezes_S1_S_).sem
/-- and of four. -/
abbrev sem4 (s : DmaSems sig S4) (k : Fin 4) : DmaSem sig := ((s.slice (Rect.unit (s := S4) ![k.val] S1.size (inb4 k))).squeeze S_ squeezes_S1_S_).sem

/-- The barrier. -/
abbrev barS : Sem sig := (SemArray.scalar (sig.barrier 0 rfl) : Sems sig S_).sem

/-! ## Operations -/

/-- Send the block `src` to `dst` of device `t`; `ss` is raised here when it has left, `rs` there when it has arrived. -/
abbrev sendOp (t : Dev nD) (src dst : Memref sig .tc .hbm S256x1024 .f32) (ss rs : DmaSem sig) : Op F :=
  .enqueueDma src (.remote (Dev.tc t) dst (.dma ss)) (.dma rs) (View.wordExact_bits rfl) (View.wordExact_bits rfl) ⟨⟨rfl, Or.inl rfl⟩, trivial⟩
/-- Wait until `s` has been raised by as much as a copy into `dst` raises it. -/
abbrev waitOp (s : DmaSem sig) (src dst : Memref sig .tc .hbm S256x1024 .f32) : Op F :=
  .waitDma2 s src dst (View.wordExact_bits rfl) (View.wordExact_bits rfl)
/-- Start copying 1024 rows of the argument into half `b` of the staging buffer; -/
abbrev loadOp (src : Memref sig .tc .hbm S1024x1024 .f32) (b : Fin 2) (s : DmaSem sig) : Op F :=
  .enqueueDma src (.here (vBuf b)) (.dma s) (View.wordExact_bits rfl) ((View.wordExact_bits rfl).reshape _ _) ⟨Or.inl rfl, trivial⟩
/-- wait for that; -/
abbrev waitLoadOp (s : DmaSem sig) (src : Memref sig .tc .hbm S1024x1024 .f32) (b : Fin 2) : Op F :=
  .waitDma2 s src (vBuf b) (View.wordExact_bits rfl) ((View.wordExact_bits rfl).reshape _ _)
/-- start copying that half to 1024 rows of the result; -/
abbrev storeOp (b : Fin 2) (dst : Memref sig .tc .hbm S1024x1024 .f32) (s : DmaSem sig) : Op F :=
  .enqueueDma (vBuf b) (.here dst) (.dma s) ((View.wordExact_bits rfl).reshape _ _) (View.wordExact_bits rfl) ⟨Or.inl rfl, trivial⟩
/-- wait for that. -/
abbrev waitStoreOp (s : DmaSem sig) (b : Fin 2) (dst : Memref sig .tc .hbm S1024x1024 .f32) : Op F :=
  .waitDma2 s (vBuf b) dst ((View.wordExact_bits rfl).reshape _ _) (View.wordExact_bits rfl)

/-- Signal the barrier semaphore of device `t`; wait for three such signals. -/
abbrev sigOp (t : Dev nD) : Op F := .semSignal (Dev.tc t) barS 1
/-- Wait for three signals. -/
abbrev waitBarOp : Op F := .semWait barS 3

/-! ## The whole text -/

/-- Where a device's copies go: its neighbours along the three axes of the mesh, and the blocks the kernel
    names: the pieces of the argument it sends (`src`) and where they land (`dst`); the four quarters of the other
    half of its own result (`rb` from its y neighbour, `xb` and `zb` forwarded once, `db` forwarded twice); the pieces
    of its own half of the argument (`ld`) and of the result (`st`). -/
structure Lay where
  ty : Dev nD
  tx : Dev nD
  tz : Dev nD
  src : Fin 16 → Memref sig .tc .hbm S256x1024 .f32
  dst : Fin 16 → Memref sig .tc .hbm S256x1024 .f32
  rb : Fin 16 → Memref sig .tc .hbm S256x1024 .f32
  xb : Fin 16 → Memref sig .tc .hbm S256x1024 .f32
  zb : Fin 16 → Memref sig .tc .hbm S256x1024 .f32
  db : Fin 16 → Memref sig .tc .hbm S256x1024 .f32
  ld : Fin 16 → Memref sig .tc .hbm S1024x1024 .f32
  st : Fin 16 → Memref sig .tc .hbm S1024x1024 .f32

/-- The half of the staging buffer that chunk `k` uses, and the chunk that used it before. -/
def par (k : Fin 16) : Fin 2 := ⟨k.val % 2, Nat.mod_lt _ (by decide)⟩
/-- The chunk that used that half before. -/
def before (k : Fin 16) : Fin 16 := ⟨k.val - 2, by omega⟩
/-- The place of a chunk among those of its parity. -/
def half (k : Fin 16) : Fin 8 := ⟨k.val / 2, by omega⟩

/-- The semaphores of a staging half: of its loads, of its stores. -/
def sLoad (b : Fin 2) : DmaSem sig := sem4 cc0_scratch11 ⟨b.val, by omega⟩
/-- The semaphore of the stores. -/
def sStore (b : Fin 2) : DmaSem sig := sem4 cc0_scratch11 ⟨2 + b.val, by omega⟩

/-- All chunks in order. -/
def all16 : List (Fin 16) := [0, 1, 2, 3, 4, 5, 6, 7, 8, 9, 10, 11, 12, 13, 14, 15]

section Ops
variable (Y : Lay)

/-- Signal the three neighbours, wait for their three signals. -/
def opsBar : List (Op F) := [sigOp Y.ty, sigOp Y.tx, sigOp Y.tz, waitBarOp]
/-- Send chunk `k` to the y neighbour. -/
def opsSend (k : Fin 16) : List (Op F) := [sendOp Y.ty (Y.src k) (Y.dst k) (sem16 cc0_scratch1 k) (sem16 cc0_scratch2 k)]
/-- Wait until the staging half of chunk `k` is free again (from chunk 2 on). -/
def opsFree (k : Fin 16) : List (Op F) := if 2 ≤ k.val then [waitStoreOp (sStore (par k)) (par k) (Y.st (before k))] else []
/-- Copy chunk `k` of the device's own half through the staging buffer. -/
def opsLocal (k : Fin 16) : List (Op F) :=
  [loadOp (Y.ld k) (par k) (sLoad (par k)), waitLoadOp (sLoad (par k)) (Y.ld k) (par k), storeOp (par k) (Y.st k) (sStore (par k))]
/-- Take chunk `k` from the y neighbour and forward it over x and z. -/
def opsFwd (k : Fin 16) : List (Op F) :=
  [waitOp (sem16 cc0_scratch2 k) (Y.rb k) (Y.rb k),
   sendOp Y.tx (Y.rb k) (Y.rb k) (sem16 cc0_scratch3 k) (sem16 cc0_scratch4 k),
   sendOp Y.tz (Y.rb k) (Y.rb k) (sem16 cc0_scratch5 k) (sem16 cc0_scratch6 k)]
/-- One step of the second loop. -/
def opsMid (k : Fin 16) : List (Op F) := opsFree Y k ++ (opsLocal Y k ++ opsFwd Y k)
/-- Take chunk `k` forwarded over x and chunk `k` forwarded over z; of the even chunks pass the first on over z, of the
    odd chunks the second over x. -/
def opsTwice (k : Fin 16) : List (Op F) :=
  if k.val % 2 = 0 then
    [waitOp (sem16 cc0_scratch4 k) (Y.xb k) (Y.xb k),
     sendOp Y.tz (Y.xb k) (Y.xb k) (sem8 cc0_scratch9 (half k)) (sem8 cc0_scratch10 (half k)),
     waitOp (sem16 cc0_scratch6 k) (Y.zb k) (Y.zb k)]
  else
    [waitOp (sem16 cc0_scratch4 k) (Y.xb k) (Y.xb k),
     waitOp (sem16 cc0_scratch6 k) (Y.zb k) (Y.zb k),
     sendOp Y.tx (Y.zb k) (Y.zb k) (sem8 cc0_scratch7 (half k)) (sem8 cc0_scratch8 (half k))]
/-- Take chunk `k` of the quarter that came over two hops. -/
def opsLast (k : Fin 16) : List (Op F) :=
  if k.val % 2 = 0 then [waitOp (sem8 cc0_scratch10 (half k)) (Y.db k) (Y.db k)] else [waitOp (sem8 cc0_scratch8 (half k)) (Y.db k) (Y.db k)]
/-- Wait until the sends of chunk `k` have left. -/
def opsLeftY (k : Fin 16) : List (Op F) := [waitOp (sem16 cc0_scratch1 k) (Y.dst k) (Y.src k)]
/-- The forwarding sends, -/
def opsLeftF (k : Fin 16) : List (Op F) :=
  [waitOp (sem16 cc0_scratch3 k) (Y.rb k) (Y.rb k), waitOp (sem16 cc0_scratch5 k) (Y.rb k) (Y.rb k)]
/-- and the send on the second hop. -/
def opsLeftT (k : Fin 16) : List (Op F) :=
  if k.val % 2 = 0 then [waitOp (sem8 cc0_scratch9 (half k)) (Y.xb k) (Y.xb k)] else [waitOp (sem8 cc0_scratch7 (half k)) (Y.zb k) (Y.zb k)]
/-- Wait for the last two stores. -/
def opsEnd : List (Op F) := [waitStoreOp (sStore 0) 0 (Y.st 14), waitStoreOp (sStore 1) 1 (Y.st 15)]

/-- The kernel, after the device number is known. -/
def ops : List (Op F) :=
  opsBar Y ++ (all16.flatMap (opsSend Y) ++ (all16.flatMap (opsMid Y) ++ (all16.flatMap (opsTwice Y) ++ (all16.flatMap (opsLast Y)
    ++ (all16.flatMap (opsLeftY Y) ++ (all16.flatMap (opsLeftF Y) ++ (all16.flatMap (opsLeftT Y) ++ opsEnd Y)))))))

end Ops

/-- The offset of the local load of chunk `k`, as the kernel computes it. -/
def ldOff (d : Dev nD) (k : Fin 16) : Fin 2 → ℕ :=
  ![1024 * k.val, (Scalar.muli (Scalar.remsi (Scalar.divsi (Dev.word d) 2#32) 2#32) 1024#32).toNat]
/-- The loads stay inside the argument. -/
theorem ldOff_inb : ∀ (d : Dev nD) (k : Fin 16) a, ldOff d k a + S1024x1024.size a ≤ S16384x2048.size a := by decide +kernel

/-- The blocks and neighbours of device `d`, as the kernel computes them. -/
def raw (d : Dev nD) : Lay where
  ty := ⟨k0_dev1 d, k0_dev1_lt d⟩
  tx := ⟨k0_dev2 d, k0_dev2_lt d⟩
  tz := ⟨k0_dev3 d, k0_dev3_lt d⟩
  src k := xRow (k0_off2 d (BitVec.ofNat 32 (256 * k.val))) (k0_off2_inb d k)
  dst k := oRow (k0_off1 d (BitVec.ofNat 32 (256 * k.val))) (k0_off1_inb d k)
  rb k := oRow (k0_off5 d (BitVec.ofNat 32 (256 * k.val))) (k0_off5_inb d k)
  xb k := oRow (k0_off21 d (BitVec.ofNat 32 (256 * k.val))) (k0_off21_inb d k)
  zb k := oRow (k0_off22 d (BitVec.ofNat 32 (256 * k.val))) (k0_off22_inb d k)
  db k := oRow (k0_off23 d (BitVec.ofNat 32 (256 * k.val))) (k0_off23_inb d k)
  ld k := xBig (ldOff d k) (ldOff_inb d k)
  st k := oBig (k0_off4 d (BitVec.ofNat 32 (1024 * k.val))) (k0_off4_inb d k)

set_option maxRecDepth 65536 in
set_option maxHeartbeats 0 in
/-- The printed body is that text. -/
theorem body_eq :
    cc0_body (F := F) xM (Memref.isWhole_whole _) oM (Memref.isWhole_whole _) vM (Memref.isWhole_whole _) cc0_scratch1 cc0_scratch2 cc0_scratch3
      cc0_scratch4 cc0_scratch5 cc0_scratch6 cc0_scratch7 cc0_scratch8 cc0_scratch9 cc0_scratch10 cc0_scratch11 cc0_scratch12
      = .op .deviceId (fun d => run (ops (raw d))) := rfl

end Cert.A2A
-- ==== Proof.Mesh.lean ====
/-
Where the copies of each device go, in closed form.

The eight devices are a 2 by 2 by 2 mesh; device `d` has the coordinates `d / 4`, `d / 2 % 2`, `d % 2` along x, y, z.
This module names a device's three neighbours and the blocks the kernel copies, by plain formulas, and shows that the
kernel's own address computations give exactly these.
-/
module

public import proofs.«01_k».proof.Proof.Text

@[expose] public section

noncomputable section

namespace Cert.A2A

open Cert.KernelIdeal Cert.KernelIdeal.Gen
open Idealize.ShloMosaic Idealize.SL.Sem

variable {F : FTy → Type} [FloatOps F]

/-! ## Neighbours -/

/-- The neighbour along y, along x, along z: the device that differs in that coordinate alone. -/
def yp (d : Dev nD) : Dev nD := ⟨4 * (d.val / 4) + 2 * (1 - d.val / 2 % 2) + d.val % 2, by have := d.isLt; unfold nD at *; omega⟩
/-- The neighbour along x; -/
def xp (d : Dev nD) : Dev nD := ⟨4 * (1 - d.val / 4) + 2 * (d.val / 2 % 2) + d.val % 2, by have := d.isLt; unfold nD at *; omega⟩
/-- the neighbour along z. -/
def zp (d : Dev nD) : Dev nD := ⟨4 * (d.val / 4) + 2 * (d.val / 2 % 2) + (1 - d.val % 2), by have := d.isLt; unfold nD at *; omega⟩

/-- Going along y twice comes back, -/
theorem yp_yp : ∀ d, yp (yp d) = d := by decide
/-- so along x -/
theorem xp_xp : ∀ d, xp (xp d) = d := by decide
/-- and along z; -/
theorem zp_zp : ∀ d, zp (zp d) = d := by decide
/-- along x, z and x again is along z, -/
theorem xp_zp_xp : ∀ d, xp (zp (xp d)) = zp d := by decide
/-- and along z twice and x is along x. -/
theorem xp_zp_zp : ∀ d, xp (zp (zp d)) = xp d := by decide

/-- A device's y coordinate, and the y coordinates of its neighbours. -/
def yc (d : Dev nD) : ℕ := d.val / 2 % 2
/-- There are two y coordinates; -/
theorem yc_lt : ∀ d, yc d < 2 := by decide
/-- the y neighbour has the other one, -/
theorem yc_yp : ∀ d, yc (yp d) = 1 - yc d := by decide
/-- the x neighbour the same -/
theorem yc_xp : ∀ d, yc (xp d) = yc d := by decide
/-- and the z neighbour the same. -/
theorem yc_zp : ∀ d, yc (zp d) = yc d := by decide

/-- The quarter a device brings over from the other half: two bits, its x and its z. -/
def qc (d : Dev nD) : ℕ := 2 * (d.val / 4) + d.val % 2
/-- There are four quarters; -/
theorem qc_lt : ∀ d, qc d < 4 := by decide
/-- y neighbours bring over quarters of one number. -/
theorem qc_yp : ∀ d, qc (yp d) = qc d := by decide

/-! ## Blocks -/

/-- The first row, in the result, of chunk `k` of the quarter that device `d` brings over. -/
def rbRow (d : Dev nD) (k : Fin 16) : ℕ := 16384 * (1 - yc d) + 4096 * qc d + 256 * k.val
/-- Those rows lie in the result. -/
theorem rbRow_inb : ∀ (d : Dev nD) (k : Fin 16) a, (![rbRow d k, 0] : Fin 2 → ℕ) a + S256x1024.size a ≤ S32768x1024.size a := by decide +kernel
/-- Chunk `k` of the quarter that device `d` brings over, in the result. -/
def rb (d : Dev nD) (k : Fin 16) : Memref sig .tc .hbm S256x1024 .f32 := oRow ![rbRow d k, 0] (rbRow_inb d k)

/-- The rows and columns sent over y lie in the argument. -/
theorem srcOff_inb : ∀ (d : Dev nD) (k : Fin 16) a,
    (![4096 * qc d + 256 * k.val, 1024 * (1 - yc d)] : Fin 2 → ℕ) a + S256x1024.size a ≤ S16384x2048.size a := by decide +kernel
/-- Chunk `k` of what device `d` sends to its y neighbour, in its argument. -/
def srcB (d : Dev nD) (k : Fin 16) : Memref sig .tc .hbm S256x1024 .f32 := xRow ![4096 * qc d + 256 * k.val, 1024 * (1 - yc d)] (srcOff_inb d k)

/-- The rows and columns kept lie in the argument. -/
theorem ldOff_inb' : ∀ (d : Dev nD) (k : Fin 16) a, (![1024 * k.val, 1024 * yc d] : Fin 2 → ℕ) a + S1024x1024.size a ≤ S16384x2048.size a := by
  decide +kernel
/-- Chunk `k` of the part of its argument that device `d` keeps; -/
def ldB (d : Dev nD) (k : Fin 16) : Memref sig .tc .hbm S1024x1024 .f32 := xBig ![1024 * k.val, 1024 * yc d] (ldOff_inb' d k)

/-- The rows of the own half lie in the result. -/
theorem stOff_inb : ∀ (d : Dev nD) (k : Fin 16) a, (![16384 * yc d + 1024 * k.val, 0] : Fin 2 → ℕ) a + S1024x1024.size a ≤ S32768x1024.size a := by
  decide +kernel
/-- the same chunk, in its result. -/
def stB (d : Dev nD) (k : Fin 16) : Memref sig .tc .hbm S1024x1024 .f32 := oBig ![16384 * yc d + 1024 * k.val, 0] (stOff_inb d k)

/-- The neighbours and blocks of device `d`. What it sends over y lands in its y neighbour's quarter; it receives its own
    quarter over y, the quarter of its x neighbour over x, that of its z neighbour over z, and the remaining one over two hops. -/
def lay (d : Dev nD) : Lay where
  ty := yp d
  tx := xp d
  tz := zp d
  src := srcB d
  dst := rb (yp d)
  rb := rb d
  xb := rb (xp d)
  zb := rb (zp d)
  db := rb (xp (zp d))
  ld := ldB d
  st := stB d

/-- Blocks at equal offsets are equal: 256 rows of the result, -/
theorem oRow_congr {o o' : Fin 2 → ℕ} (h : o = o') (i : ∀ a, o a + S256x1024.size a ≤ S32768x1024.size a) (i') : oRow o i = oRow o' i' := by
  subst h; rfl
/-- 1024 rows of the result, -/
theorem oBig_congr {o o' : Fin 2 → ℕ} (h : o = o') (i : ∀ a, o a + S1024x1024.size a ≤ S32768x1024.size a) (i') : oBig o i = oBig o' i' := by
  subst h; rfl
/-- 256 rows of the argument -/
theorem xRow_congr {o o' : Fin 2 → ℕ} (h : o = o') (i : ∀ a, o a + S256x1024.size a ≤ S16384x2048.size a) (i') : xRow o i = xRow o' i' := by
  subst h; rfl
/-- and 1024 rows of the argument. -/
theorem xBig_congr {o o' : Fin 2 → ℕ} (h : o = o') (i : ∀ a, o a + S1024x1024.size a ≤ S16384x2048.size a) (i') : xBig o i = xBig o' i' := by
  subst h; rfl

/-- The first neighbour that the kernel computes is the one along y, -/
theorem dev1_yp : ∀ d : Dev nD, (⟨k0_dev1 d, k0_dev1_lt d⟩ : Dev nD) = yp d := by decide +kernel
/-- the second the one along x, -/
theorem dev2_xp : ∀ d : Dev nD, (⟨k0_dev2 d, k0_dev2_lt d⟩ : Dev nD) = xp d := by decide +kernel
/-- the third the one along z. -/
theorem dev3_zp : ∀ d : Dev nD, (⟨k0_dev3 d, k0_dev3_lt d⟩ : Dev nD) = zp d := by decide +kernel
/-- The offsets that the kernel computes: where a chunk sent over y lands, -/
theorem off1_yp : ∀ (d : Dev nD) (k : Fin 16), k0_off1 d (BitVec.ofNat 32 (256 * k.val)) = ![rbRow (yp d) k, 0] := by decide +kernel
/-- where it comes from, -/
theorem off2_src : ∀ (d : Dev nD) (k : Fin 16), k0_off2 d (BitVec.ofNat 32 (256 * k.val)) = ![4096 * qc d + 256 * k.val, 1024 * (1 - yc d)] := by
  decide +kernel
/-- where a chunk of the own half goes, -/
theorem off4_st : ∀ (d : Dev nD) (k : Fin 16), k0_off4 d (BitVec.ofNat 32 (1024 * k.val)) = ![16384 * yc d + 1024 * k.val, 0] := by decide +kernel
/-- where a chunk that came over y lies, -/
theorem off5_rb : ∀ (d : Dev nD) (k : Fin 16), k0_off5 d (BitVec.ofNat 32 (256 * k.val)) = ![rbRow d k, 0] := by decide +kernel
/-- one that came over x, -/
theorem off21_xb : ∀ (d : Dev nD) (k : Fin 16), k0_off21 d (BitVec.ofNat 32 (256 * k.val)) = ![rbRow (xp d) k, 0] := by decide +kernel
/-- one that came over z, -/
theorem off22_zb : ∀ (d : Dev nD) (k : Fin 16), k0_off22 d (BitVec.ofNat 32 (256 * k.val)) = ![rbRow (zp d) k, 0] := by decide +kernel
/-- one that came over two hops, -/
theorem off23_db : ∀ (d : Dev nD) (k : Fin 16), k0_off23 d (BitVec.ofNat 32 (256 * k.val)) = ![rbRow (xp (zp d)) k, 0] := by decide +kernel
/-- and where a chunk of the own half comes from. -/
theorem ldOff_eq : ∀ (d : Dev nD) (k : Fin 16), ldOff d k = ![1024 * k.val, 1024 * yc d] := by decide +kernel

/-- What the kernel computes is that. -/
theorem raw_eq (d : Dev nD) : raw d = lay d := by
  unfold raw lay
  congr 1
  · exact dev1_yp d
  · exact dev2_xp d
  · exact dev3_zp d
  · funext k; exact xRow_congr (off2_src d k) _ _
  · funext k; exact oRow_congr (off1_yp d k) _ _
  · funext k; exact oRow_congr (off5_rb d k) _ _
  · funext k; exact oRow_congr (off21_xb d k) _ _
  · funext k; exact oRow_congr (off22_zb d k) _ _
  · funext k; exact oRow_congr (off23_db d k) _ _
  · funext k; exact xBig_congr (ldOff_eq d k) _ _
  · funext k; exact oBig_congr (off4_st d k) _ _

end Cert.A2A
-- ==== Proof.Sched.lean ====
/-
The protocol of the eight devices.

Every semaphore has one owner, the device that waits for it. This module says, for every semaphore, how often it is
raised, by how much, and what its owner may use once it has waited: the blocks a neighbour has filled, the blocks an own
copy has given back, and, at the barrier, the blocks of the neighbours' results that the neighbours permit it to fill.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The names of the contributions to one round of a semaphore: the barrier has three, every other one the first alone. -/
abbrev D : Type := Fin 3
/-- The ghost state of the schedule, -/
abbrev UB : Type := URounds (GSem nD τ sig) D
/-- and that of the whole proof. -/
abbrev UU : Type := UR sig nD τ × UB

local notation "𝕄" => MT nD τ sig Unit (Elt F) ℕ UU ℕ

/-- The launch uses the first component, -/
abbrev EP : Emb (UR sig nD τ) (MT nD τ sig Unit (Elt F) ℕ UU ℕ) := embL
/-- the schedule the second. -/
abbrev ER : Emb UB (MT nD τ sig Unit (Elt F) ℕ UU ℕ) := embR

variable (m : (ℓ : Loc nD τ sig) → Buf (Elt F) ℓ)

/-! ## The semaphores by their purpose -/

/-- What a semaphore is for. Chunk `k` has a pair of semaphores (left here, arrived here) for the copy over y (`ys`, `yr`),
    for that forwarded over x (`xs`, `xr`), for that forwarded over z (`zs`, `zr`), and for that of the second hop
    (`ts`, `tr`); staging half `b` one for its loads and one for its stores (`ld`, `st`); `bar` is the barrier;
    `no` is a semaphore that is never used. -/
inductive Kd where
  | ys (k : Fin 16) | yr (k : Fin 16) | xs (k : Fin 16) | xr (k : Fin 16) | zs (k : Fin 16) | zr (k : Fin 16)
  | ts (k : Fin 16) | tr (k : Fin 16) | ld (b : Fin 2) | st (b : Fin 2) | bar | no
deriving DecidableEq

/-- The semaphore of a purpose. The second hop of an even chunk goes over z, that of an odd one over x. -/
def Kd.loc : Kd → SemLoc sig
  | ys k => .dma (sem16 cc0_scratch1 k)
  | yr k => .dma (sem16 cc0_scratch2 k)
  | xs k => .dma (sem16 cc0_scratch3 k)
  | xr k => .dma (sem16 cc0_scratch4 k)
  | zs k => .dma (sem16 cc0_scratch5 k)
  | zr k => .dma (sem16 cc0_scratch6 k)
  | ts k => .dma (if k.val % 2 = 0 then sem8 cc0_scratch9 (half k) else sem8 cc0_scratch7 (half k))
  | tr k => .dma (if k.val % 2 = 0 then sem8 cc0_scratch10 (half k) else sem8 cc0_scratch8 (half k))
  | ld b => .dma (sLoad b)
  | st b => .dma (sStore b)
  | bar => .reg barS
  | no => .dma ⟨132, by decide⟩

/-- Chunk `2 j` or `2 j + 1`. -/
def evn (j : ℕ) (h : j < 8) : Fin 16 := ⟨2 * j, by omega⟩
/-- The odd one. -/
def odd (j : ℕ) (h : j < 8) : Fin 16 := ⟨2 * j + 1, by omega⟩

/-- The purpose of the semaphore of number `i`. -/
def kdAt (i : ℕ) : Kd :=
  if h : i < 16 then .ys ⟨i, h⟩
  else if h : i < 32 then .yr ⟨i - 16, by omega⟩
  else if h : i < 48 then .xs ⟨i - 32, by omega⟩
  else if h : i < 64 then .xr ⟨i - 48, by omega⟩
  else if h : i < 80 then .zs ⟨i - 64, by omega⟩
  else if h : i < 96 then .zr ⟨i - 80, by omega⟩
  else if h : i < 104 then .ts (odd (i - 96) (by omega))
  else if h : i < 112 then .tr (odd (i - 104) (by omega))
  else if h : i < 120 then .ts (evn (i - 112) (by omega))
  else if h : i < 128 then .tr (evn (i - 120) (by omega))
  else if h : i < 130 then .ld ⟨i - 128, by omega⟩
  else if h : i < 132 then .st ⟨i - 130, by omega⟩
  else .no

/-- The purpose of a semaphore. -/
def kd : SemLoc sig → Kd
  | .reg _ => .bar
  | .dma i => kdAt i.val

/-- The semaphore of a purpose has that purpose: the chunks sent over y, -/
theorem kd_ys : ∀ k, kd (Kd.ys k).loc = .ys k := by decide +kernel
/-- received over y, -/
theorem kd_yr : ∀ k, kd (Kd.yr k).loc = .yr k := by decide +kernel
/-- forwarded over x, -/
theorem kd_xs : ∀ k, kd (Kd.xs k).loc = .xs k := by decide +kernel
/-- received over x, -/
theorem kd_xr : ∀ k, kd (Kd.xr k).loc = .xr k := by decide +kernel
/-- forwarded over z, -/
theorem kd_zs : ∀ k, kd (Kd.zs k).loc = .zs k := by decide +kernel
/-- received over z, -/
theorem kd_zr : ∀ k, kd (Kd.zr k).loc = .zr k := by decide +kernel
/-- sent on the second hop, -/
theorem kd_ts : ∀ k, kd (Kd.ts k).loc = .ts k := by decide +kernel
/-- received on it, -/
theorem kd_tr : ∀ k, kd (Kd.tr k).loc = .tr k := by decide +kernel
/-- the loads -/
theorem kd_ld : ∀ b, kd (Kd.ld b).loc = .ld b := by decide +kernel
/-- and the stores. -/
theorem kd_st : ∀ b, kd (Kd.st b).loc = .st b := by decide +kernel

/-- A purpose has one semaphore. -/
theorem kd_loc (κ : Kd) : kd κ.loc = κ := by
  cases κ with
  | ys k => exact kd_ys k
  | yr k => exact kd_yr k
  | xs k => exact kd_xs k
  | xr k => exact kd_xr k
  | zs k => exact kd_zs k
  | zr k => exact kd_zr k
  | ts k => exact kd_ts k
  | tr k => exact kd_tr k
  | ld b => exact kd_ld b
  | st b => exact kd_st b
  | bar => rfl
  | no => decide +kernel

/-- The barrier is the semaphore of its purpose, -/
theorem loc_kd_reg : ∀ s : Sem sig, (kd (.reg s)).loc = .reg s := by decide +kernel
/-- and so is every semaphore of a copy. -/
theorem loc_kd_dma : ∀ s : DmaSem sig, (kd (.dma s)).loc = .dma s := by decide +kernel
/-- Every semaphore has a purpose. -/
theorem loc_kd (s : SemLoc sig) : (kd s).loc = s := by
  cases s with
  | reg s => exact loc_kd_reg s
  | dma s => exact loc_kd_dma s

/-- Different purposes have different semaphores. -/
theorem loc_inj {κ κ' : Kd} (h : κ.loc = κ'.loc) : κ = κ' := by rw [← kd_loc κ, h, kd_loc]

/-- The semaphore of purpose `κ` on device `c`. -/
abbrev cell (c : Dev nD) (κ : Kd) : GSem nD τ sig := ((c : Thread nD τ), κ.loc)

/-! ## The second hop -/

/-- Where device `c` sends chunk `k` on the second hop, and whose quarter that chunk is of. -/
def tp (k : Fin 16) (c : Dev nD) : Dev nD := if k.val % 2 = 0 then zp c else xp c
/-- Whose quarter the chunk that `c` sends on is of. -/
def fp (k : Fin 16) (c : Dev nD) : Dev nD := if k.val % 2 = 0 then xp c else zp c

/-- The second hop goes both ways between two devices. -/
theorem tp_tp : ∀ k c, tp k (tp k c) = c := by decide
/-- What arrives at `c` on the second hop is of the quarter of the device opposite to `c` in x and z. -/
theorem fp_tp : ∀ k c, fp k (tp k c) = xp (zp c) := by decide
/-- The quarter opposite to the receiver is the one sent on. -/
theorem xpzp_tp : ∀ k c, xp (zp (tp k c)) = fp k c := by decide
/-- The second hop stays at one y coordinate, -/
theorem yc_tp : ∀ k c, yc (tp k c) = yc c := by decide
/-- and so does the quarter that is sent on. -/
theorem yc_fp : ∀ k c, yc (fp k c) = yc c := by decide

/-! ## Contents -/

/-- The argument of device `c`, and its result before and after the kernel. -/
abbrev X (c : Dev nD) : Buf (Elt F) ((c : Thread nD τ).loc main_arg0) := m ((c : Thread nD τ).loc main_arg0)
/-- The result before the kernel. -/
abbrev out0 (c : Dev nD) : Buf (Elt F) ((c : Thread nD τ).loc main_v1) := m ((c : Thread nD τ).loc main_v1)

/-- The device whose argument row `r` of device `c`'s result comes from: `c` itself on its own half; on the other half the
    device there that brings over the quarter of `r`. -/
def origin (c : Dev nD) (r : ℕ) : Dev nD :=
  if r / 16384 = yc c then c
  else ⟨4 * (r % 16384 / 4096 / 2) + 2 * (1 - yc c) + r % 16384 / 4096 % 2, by have := yc_lt c; unfold nD; omega⟩

/-- The result of device `c`: row `r` is row `r % 16384` of its origin's argument, in the 1024 columns of `c`'s y coordinate. -/
def outF (c : Dev nD) : Buf (Elt F) ((c : Thread nD τ).loc main_v1) := fun (i : S32768x1024.Idx) =>
  X m (origin c (i 0).val) (Shape.pair (d := ![16384, 2048]) ⟨(i 0).val % 16384, Nat.mod_lt _ (by decide)⟩
    ⟨1024 * yc c + (i 1).val, by have := yc_lt c; have : (i 1).val < 1024 := (i 1).isLt; show _ < 2048; omega⟩)

/-! ## Pieces held -/

/-- Chunk `k` of device `e`'s quarter, in the result of device `c`; -/
def rg (c e : Dev nD) (k : Fin 16) (q : PosShare TreeShare) (f : Buf (Elt F) ((c : Thread nD τ).loc main_v1)) : sProp 𝕄 :=
  (c : Thread nD τ).loc main_v1 ↦[(rb e k).view.set]{q} f
/-- chunk `k` of device `c`'s own half of its result; -/
def stP (c : Dev nD) (k : Fin 16) (f : Buf (Elt F) ((c : Thread nD τ).loc main_v1)) : sProp 𝕄 :=
  (c : Thread nD τ).loc main_v1 ↦[(stB c k).view.set]{fullShare} f
/-- chunk `k` of what `c` sends over y, in its argument; -/
def srcP (c : Dev nD) (k : Fin 16) : sProp 𝕄 :=
  (c : Thread nD τ).loc main_arg0 ↦[(srcB c k).view.set]{fullShare.left} X m c
/-- chunk `k` of what `c` keeps, in its argument; -/
def ldP (c : Dev nD) (k : Fin 16) : sProp 𝕄 :=
  (c : Thread nD τ).loc main_arg0 ↦[(ldB c k).view.set]{fullShare.right} X m c
/-- half `b` of the staging buffer. -/
def vP (c : Dev nD) (b : Fin 2) (f : Buf (Elt F) ((c : Thread nD τ).loc cc0_scratch0)) : sProp 𝕄 :=
  (c : Thread nD τ).loc cc0_scratch0 ↦[(vBuf b).view.set]{fullShare} f

/-! ## The schedule -/

/-- What device `e` permits over the barrier: its y neighbour may fill the quarter that `e` brings over; its x neighbour
    may fill its own quarter and the odd chunks of the opposite one, its z neighbour its own and the even chunks. -/
def grantY (e : Dev nD) : sProp 𝕄 := bigSep Finset.univ fun k => rg e e k fullShare (out0 m e)
/-- The permission to the x neighbour, -/
def grantX (e : Dev nD) : sProp 𝕄 := bigSep Finset.univ fun k : Fin 16 =>
  iprop(rg e (xp e) k fullShare (out0 m e) ∗ if k.val % 2 = 0 then iprop(emp) else rg e (xp (zp e)) k fullShare (out0 m e))
/-- and to the z neighbour. -/
def grantZ (e : Dev nD) : sProp 𝕄 := bigSep Finset.univ fun k : Fin 16 =>
  iprop(rg e (zp e) k fullShare (out0 m e) ∗ if k.val % 2 = 0 then rg e (xp (zp e)) k fullShare (out0 m e) else iprop(emp))

/-- The chunk that staging half `b` holds in its round `r`. -/
def chunk (b : Fin 2) (r : ℕ) : Fin 16 := ⟨(2 * r + b.val) % 16, Nat.mod_lt _ (by decide)⟩

/-- The number of rounds of a semaphore. -/
def rounds : Kd → ℕ
  | .ld _ => 8 | .st _ => 8 | .no => 0 | _ => 1

/-- The credits of a chunk's copy and of a staging half's. -/
@[irreducible] def N : ℕ := (rb 0 0).view.dmaCredit
@[irreducible] def NB : ℕ := (vBuf 0).view.dmaCredit
/-- A chunk raises its semaphore by something, -/
theorem N_pos : 0 < N := by unfold N; exact View.dmaCredit_pos _ (Shape.numel_pos (by decide))
/-- and a staging half too, -/
theorem NB_pos : 0 < NB := by unfold NB; exact View.dmaCredit_pos _ (Shape.numel_pos (by decide))

/-- By how much a contribution raises a semaphore. -/
def amt : Kd → ℕ
  | .bar => 1 | .ld _ => NB | .st _ => NB | _ => N

/-- as does every contribution. -/
theorem amt_pos (κ : Kd) : 0 < amt κ := by
  cases κ with
  | bar => exact Nat.one_pos
  | ld b => exact NB_pos
  | st b => exact NB_pos
  | _ => exact N_pos

/-- What the owner `c` of a semaphore gets in round `r` from contribution `d`. -/
def pay (c : Dev nD) (r : ℕ) (d : D) : Kd → sProp 𝕄
  | .ys k => srcP m c k
  | .yr k => rg c c k fullShare (outF m c)
  | .xs k => rg c c k fullShare.left (outF m c)
  | .zs k => rg c c k fullShare.right (outF m c)
  | .xr k => rg c (xp c) k fullShare (outF m c)
  | .zr k => rg c (zp c) k fullShare (outF m c)
  | .ts k => rg c (fp k c) k fullShare (outF m c)
  | .tr k => rg c (xp (zp c)) k fullShare (outF m c)
  | .ld b => iprop((∃ f, ⌜(vBuf b).view.read (Elt F) f = (ldB c (chunk b r)).view.read (Elt F) (X m c)⌝ ∗ vP c b f) ∗ ldP m c (chunk b r))
  | .st b => iprop(stP c (chunk b r) (outF m c) ∗ ∃ f, vP c b f)
  | .bar => if d = 0 then grantY m (yp c) else if d = 1 then grantX m (xp c) else grantZ m (zp c)
  | .no => iprop(emp)

/-- What is handed over a semaphore may be kept in an invariant: a piece of a buffer, -/
theorem pts_storable (ℓ : Loc nD τ sig) (I : Finset ℓ.ty.Idx) (q : PosShare TreeShare) (f : Buf (Elt F) ℓ) :
    BI.Storable (upEmb : UEmb _ 𝕄) (ℓ ↦[I]{q} f) := inferInstance
/-- a chunk of a quarter, -/
instance rg_storable (c e : Dev nD) (k : Fin 16) (q : PosShare TreeShare) (f) : BI.Storable (upEmb : UEmb _ 𝕄) (rg (F := F) c e k q f) := pts_storable _ _ _ _
/-- a chunk of the own half, -/
instance stP_storable (c : Dev nD) (k : Fin 16) (f) : BI.Storable (upEmb : UEmb _ 𝕄) (stP (F := F) c k f) := pts_storable _ _ _ _
/-- a chunk sent over y, -/
instance srcP_storable (c : Dev nD) (k : Fin 16) : BI.Storable (upEmb : UEmb _ 𝕄) (srcP m c k) := pts_storable _ _ _ _
/-- a chunk that is loaded, -/
instance ldP_storable (c : Dev nD) (k : Fin 16) : BI.Storable (upEmb : UEmb _ 𝕄) (ldP m c k) := pts_storable _ _ _ _
/-- a staging half, -/
instance vP_storable (c : Dev nD) (b : Fin 2) (f) : BI.Storable (upEmb : UEmb _ 𝕄) (vP (F := F) c b f) := pts_storable _ _ _ _
/-- one of two such things, -/
theorem ite_storable (p : Prop) [Decidable p] (A B : sProp 𝕄) [BI.Storable (upEmb : UEmb _ 𝕄) A] [BI.Storable (upEmb : UEmb _ 𝕄) B] :
    BI.Storable (upEmb : UEmb _ 𝕄) (if p then A else B) := by split <;> infer_instance
/-- the permission to the y neighbour, -/
instance grantY_storable (e : Dev nD) : BI.Storable (upEmb : UEmb _ 𝕄) (grantY m e) := by unfold grantY; infer_instance
/-- to the x neighbour -/
instance grantX_storable (e : Dev nD) : BI.Storable (upEmb : UEmb _ 𝕄) (grantX m e) := by
  unfold grantX
  haveI := fun k : Fin 16 => ite_storable (k.val % 2 = 0) (iprop(emp) : sProp 𝕄) (rg e (xp (zp e)) k fullShare (out0 m e))
  infer_instance
/-- and to the z neighbour, -/
instance grantZ_storable (e : Dev nD) : BI.Storable (upEmb : UEmb _ 𝕄) (grantZ m e) := by
  unfold grantZ
  haveI := fun k : Fin 16 => ite_storable (k.val % 2 = 0) (rg e (xp (zp e)) k fullShare (out0 m e)) (iprop(emp) : sProp 𝕄)
  infer_instance

/-- and so every payload -/
instance pay_storable (c : Dev nD) (r : ℕ) (d : D) (κ : Kd) : BI.Storable (upEmb : UEmb _ 𝕄) (pay m c r d κ) := by
  cases κ with
  | bar =>
    dsimp only [pay]
    haveI := ite_storable (d = 1) (grantX m (xp c)) (grantZ m (zp c))
    exact ite_storable _ _ _
  | _ => dsimp only [pay]; infer_instance

/-- The schedule of all semaphores. -/
def Rd : Rounds.Schedule (GSem nD τ sig) D 𝕄 where
  duties g r := if r < rounds (kd g.2) then (if kd g.2 = .bar then Finset.univ else {0}) else ∅
  unitless _ := False
  amount g _ _ := amt (kd g.2)
  payload g r d := pay m g.1.1 r d (kd g.2)
  amount_pos g _ _ _ := amt_pos _

/-- and every payload of the schedule. -/
instance Rd_storable (g : GSem nD τ sig) (r : ℕ) (d : D) : BI.Storable (upEmb : UEmb _ 𝕄) ((Rd (F := F) m).payload g r d) := by
  show BI.Storable upEmb (pay m g.1.1 r d (kd g.2)); infer_instance

variable (c : Dev nD) (κ : Kd)

/-- A round of a semaphore other than the barrier has one contribution, -/
theorem duties_eq {r : ℕ} (hr : r < rounds κ) (hκ : κ ≠ .bar) : (Rd (F := F) m).duties (cell c κ) r = {0} := by
  dsimp only [Rd]; rw [kd_loc, if_pos hr, if_neg hκ]
/-- that of the barrier three, -/
theorem duties_bar : (Rd (F := F) m).duties (cell c .bar) 0 = Finset.univ := by
  dsimp only [Rd]; rw [kd_loc, if_pos (by decide), if_pos rfl]
/-- and past its rounds a semaphore has none. -/
theorem duties_end (r : ℕ) (hr : rounds κ ≤ r) : (Rd (F := F) m).duties (cell c κ) r = ∅ := by
  dsimp only [Rd]; rw [kd_loc, if_neg (by omega)]
/-- A contribution is of the amount of its purpose -/
theorem amount_eq (r : ℕ) (d : D) : (Rd (F := F) m).amount (cell c κ) r d = amt κ := by
  dsimp only [Rd]; rw [kd_loc]
/-- and hands over the payload of its purpose. -/
theorem payload_eq (r : ℕ) (d : D) : (Rd (F := F) m).payload (cell c κ) r d = pay m c r d κ := by
  dsimp only [Rd]; rw [kd_loc]
/-- The owner waits for that amount, -/
theorem expect_eq {r : ℕ} (hr : r < rounds κ) (hκ : κ ≠ .bar) : (Rd (F := F) m).expect (cell c κ) r = amt κ := by
  unfold Schedule.expect Schedule.amountOf; rw [duties_eq m c κ hr hκ, Finset.sum_singleton, amount_eq]
/-- and at the barrier for three. -/
theorem expect_bar : (Rd (F := F) m).expect (cell c .bar) 0 = 3 := by
  unfold Schedule.expect Schedule.amountOf
  rw [duties_bar, Finset.sum_congr rfl fun d _ => amount_eq m c .bar 0 d]; rfl
/-- What the owner gets when it has waited for a round. -/
theorem rest_eq {r : ℕ} (hr : r < rounds κ) (hκ : κ ≠ .bar) :
    bigSep ((Rd (F := F) m).duties (cell c κ) r \ ∅) (fun d => (Rd (F := F) m).payload (cell c κ) r d) = pay m c r 0 κ := by
  rw [Finset.sdiff_empty, duties_eq m c κ hr hκ, bigSep_singleton, payload_eq]
/-- At the barrier it gets the permissions of its three neighbours. -/
theorem rest_bar : bigSep ((Rd (F := F) m).duties (cell c .bar) 0 \ ∅) (fun d => (Rd (F := F) m).payload (cell c .bar) 0 d)
    = iprop(grantY m (yp c) ∗ grantX m (xp c) ∗ grantZ m (zp c)) := by
  rw [Finset.sdiff_empty, duties_bar, bigSep_univ_eq_bigSepL [0, 1, 2] (by decide) (by decide), bigSepL_cons_cons, bigSepL_cons_cons, bigSepL_singleton,
    payload_eq, payload_eq, payload_eq]
  rfl

/-! ## Levels -/

/-- The order in which the semaphores are waited for: whoever waits owes contributions to later ones only. -/
def level : Kd → ℕ
  | .bar => 1 | .yr _ => 2 | .xr _ => 3 | .zr _ => 3 | .tr _ => 4 | _ => 0

/-- Only the semaphores of the devices' main cores have a level, -/
def L (g : GSem nD τ sig) : Finset Unit := if g.1.2 = .tc then {()} else ∅
/-- which is that of their purpose. -/
def lv (g : GSem nD τ sig) (_ : Unit) : ℕ := level (kd g.2)

/-- Other semaphores have none. -/
theorem L_of_ne (g : GSem nD τ sig) (h : g.1.2 ≠ .tc) : L g = ∅ := if_neg h
/-- The semaphores of a main core have one. -/
theorem L_tc (c : Dev nD) (s : SemLoc sig) : L ((c : Thread nD τ), s) = {()} := if_pos rfl

/-- All that is owed is owed to semaphores above level `n`. -/
def Above (n : ℕ) (O : CellTallies nD τ sig Unit) : Prop := ∀ g u, 0 < O g u → g.1.2 = .tc ∧ n < level (kd g.2)

/-- Nothing owed is above every level; -/
theorem Above.zero (n : ℕ) : Above n 0 := fun g u h => absurd h (Nat.lt_irrefl 0)
/-- what is owed together is above a level if each part is, -/
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- what is owed to one semaphore if that one is, -/
theorem Above.at {n : ℕ} (c : Dev nD) (κ : Kd) (a : ℕ) (h : n < level κ) : Above n (tallyAt (cell c κ) () a) := fun g u hg => by
  rw [tallyAt_apply] at hg
  by_cases he : g = cell c κ ∧ u = ()
  · rw [he.1]; exact ⟨rfl, by rw [kd_loc]; exact h⟩
  · rw [if_neg he] at hg; exact absurd hg (Nat.lt_irrefl 0)
/-- what is owed for several chunks if each is. -/
theorem Above.sum {n : ℕ} {T : Fin 16 → CellTallies nD τ sig Unit} (S : Finset (Fin 16)) (h : ∀ k, Above n (T k)) : Above n (∑ k ∈ S, T k) := by
  classical
  induction S using Finset.induction_on with
  | empty => exact Above.zero n
  | insert a S ha ih => rw [Finset.sum_insert ha]; exact (h a).add ih

/-- So a device may wait for any semaphore of a level up to `n`. -/
theorem mayWait {n : ℕ} {O : CellTallies nD τ sig Unit} (h : Above n O) (hκ : level κ ≤ n) :
    (levAts L lv : sProp 𝕄) ⊢ MayWait (c : Thread nD τ) κ.loc () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; unfold lv; rw [kd_loc]; exact hκ)
    (fun g u hg => (h g u hg).2)

end Cert.A2A
-- ==== Proof.Blocks.lean ====
/-
The blocks of the argument and of the result, and what the copies leave in them.

The blocks that a device's own half is made of, and those of the four quarters of the other half, are disjoint and are the
whole result. What a copy writes into a block of the result is the final result there: the y copies and the local copies
bring rows of the argument, the others bring final rows of a device with the same y coordinate.
-/
module

public import proofs.«01_k».proof.Proof.Sched

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Credits -/

/-- A copy into a chunk of a quarter raises its semaphore by `N`. -/
theorem credit_rb (e : Dev nD) (k : Fin 16) : (rb e k).view.dmaCredit = N := by unfold N; rfl
/-- So does a copy out of a chunk sent over y. -/
theorem credit_src (e : Dev nD) (k : Fin 16) : (srcB e k).view.dmaCredit = N := by unfold N; rfl
/-- A copy into half a staging buffer raises its semaphore by `NB`. -/
theorem credit_vBuf (b : Fin 2) : (vBuf b).view.dmaCredit = NB := by unfold NB; rfl
/-- So does a copy into a chunk of the own half. -/
theorem credit_st (c : Dev nD) (k : Fin 16) : (stB c k).view.dmaCredit = NB := by unfold NB; rfl

/-! ## Rows -/

/-- The elements under a slice of a whole buffer are those of its rectangle. -/
theorem mem_slice (b : Ref sig .tc) (r : Rect b.ty.shape) (i : b.ty.shape.Idx) : i ∈ ((View.whole b).slice r).set ↔ i ∈ r.set := by
  rw [View.set_slice_whole]

/-- The elements of chunk `k` of a quarter are those of its 256 rows. -/
theorem mem_rb (e : Dev nD) (k : Fin 16) (i : S32768x1024.Idx) :
    i ∈ (rb e k).view.set ↔ rbRow e k ≤ (i 0).val ∧ (i 0).val < rbRow e k + 256 := by
  refine (mem_slice main_v1 (Rect.unit (s := S32768x1024) ![rbRow e k, 0] S256x1024.size (rbRow_inb e k)) i).trans (Rect.mem_set_unit.trans ⟨fun H => H 0, fun H a => ?_⟩)
  have h1 : (i 1).val < 1024 := (i 1).isLt
  fin_cases a
  · exact H
  · exact ⟨Nat.zero_le _, by show (i 1).val < 0 + 1024; omega⟩

/-- The elements of chunk `k` of the own half are those of its 1024 rows. -/
theorem mem_stB (c : Dev nD) (k : Fin 16) (i : S32768x1024.Idx) :
    i ∈ (stB c k).view.set ↔ 16384 * yc c + 1024 * k.val ≤ (i 0).val ∧ (i 0).val < 16384 * yc c + 1024 * k.val + 1024 := by
  refine (mem_slice main_v1 (Rect.unit (s := S32768x1024) ![16384 * yc c + 1024 * k.val, 0] S1024x1024.size (stOff_inb c k)) i).trans
    (Rect.mem_set_unit.trans ⟨fun H => H 0, fun H a => ?_⟩)
  have h1 : (i 1).val < 1024 := (i 1).isLt
  fin_cases a
  · exact H
  · exact ⟨Nat.zero_le _, by show (i 1).val < 0 + 1024; omega⟩

/-- The elements of a chunk sent over y lie in its 256 rows. -/
theorem mem_srcB (c : Dev nD) (k : Fin 16) (i : S16384x2048.Idx) (h : i ∈ (srcB c k).view.set) :
    4096 * qc c + 256 * k.val ≤ (i 0).val ∧ (i 0).val < 4096 * qc c + 256 * k.val + 256 :=
  Rect.mem_set_unit.mp
    ((mem_slice main_arg0 (Rect.unit (s := S16384x2048) ![4096 * qc c + 256 * k.val, 1024 * (1 - yc c)] S256x1024.size (srcOff_inb c k)) i).mp h) 0

/-- The elements of a chunk that is loaded lie in its 1024 rows. -/
theorem mem_ldB (c : Dev nD) (k : Fin 16) (i : S16384x2048.Idx) (h : i ∈ (ldB c k).view.set) :
    1024 * k.val ≤ (i 0).val ∧ (i 0).val < 1024 * k.val + 1024 :=
  Rect.mem_set_unit.mp
    ((mem_slice main_arg0 (Rect.unit (s := S16384x2048) ![1024 * k.val, 1024 * yc c] S1024x1024.size (ldOff_inb' c k)) i).mp h) 0

/-- The blocks that a device sends over y are disjoint, and so are those that it loads. -/
theorem srcB_disjoint (c : Dev nD) (k k' : Fin 16) (h : k ≠ k') : Disjoint (srcB c k).view.set (srcB c k').view.set :=
  Finset.disjoint_left.mpr fun i hi hi' => by
    have a := mem_srcB c k i hi
    have b := mem_srcB c k' i hi'
    exact h (Fin.ext (by omega))
/-- The chunks that a device loads are disjoint. -/
theorem ldB_disjoint (c : Dev nD) (k k' : Fin 16) (h : k ≠ k') : Disjoint (ldB c k).view.set (ldB c k').view.set :=
  Finset.disjoint_left.mpr fun i hi hi' => by
    have a := mem_ldB c k i hi
    have b := mem_ldB c k' i hi'
    exact h (Fin.ext (by omega))

/-! ## The result as the union of its blocks -/

/-- The device whose quarter is the `j`th of those a device ends up with. -/
def quarter (c : Dev nD) : Fin 4 → Dev nD
  | 0 => c | 1 => xp c | 2 => zp c | 3 => xp (zp c)

/-- The first row of a block of the result of device `c`, and the number of its rows: block `k` of the own half
    (`none`) or of a quarter. -/
def blkRow (c : Dev nD) : Option (Fin 4) × Fin 16 → ℕ
  | (none, k) => 16384 * yc c + 1024 * k.val
  | (some j, k) => rbRow (quarter c j) k
/-- The number of rows of a block of the result. -/
def blkLen : Option (Fin 4) × Fin 16 → ℕ
  | (none, _) => 1024
  | (some _, _) => 256

/-- The elements of that block. -/
def blk (c : Dev nD) : Option (Fin 4) × Fin 16 → Finset S32768x1024.Idx
  | (none, k) => (stB c k).view.set
  | (some j, k) => (rb (quarter c j) k).view.set

/-- The elements of a block are those of its rows. -/
theorem mem_blk (c : Dev nD) (p : Option (Fin 4) × Fin 16) (i : S32768x1024.Idx) :
    i ∈ blk c p ↔ blkRow c p ≤ (i 0).val ∧ (i 0).val < blkRow c p + blkLen p := by
  obtain ⟨j, k⟩ := p
  cases j with
  | none => exact mem_stB c k i
  | some j => exact mem_rb (quarter c j) k i

/-- The four quarters are brought by devices of one y coordinate, -/
theorem quarter_yc : ∀ c j, yc (quarter c j) = yc c := by decide
/-- they are four different quarters, -/
theorem quarter_inj : ∀ c j j', qc (quarter c j) = qc (quarter c j') → j = j' := by decide
/-- and they are all of them. -/
theorem quarter_surj : ∀ (c : Dev nD) (q : Fin 4), ∃ j, qc (quarter c j) = q.val := by decide

/-- Different blocks of a result have no element in common. -/
theorem blk_disjoint (c : Dev nD) (p p' : Option (Fin 4) × Fin 16) (h : p ≠ p') : Disjoint (blk c p) (blk c p') :=
  Finset.disjoint_left.mpr fun i hi hi' => by
    rw [mem_blk] at hi hi'
    obtain ⟨j, k⟩ := p
    obtain ⟨j', k'⟩ := p'
    have hk := k.isLt
    have hk' := k'.isLt
    have hy := yc_lt c
    cases j with
    | none =>
      cases j' with
      | none =>
        simp only [blkRow, blkLen] at hi hi'
        have : k = k' := Fin.ext (by omega)
        subst this; exact h rfl
      | some j' =>
        simp only [blkRow, blkLen, rbRow, quarter_yc] at hi hi'
        have := qc_lt (quarter c j')
        omega
    | some j =>
      have hq := qc_lt (quarter c j)
      cases j' with
      | none =>
        simp only [blkRow, blkLen, rbRow, quarter_yc] at hi hi'
        omega
      | some j' =>
        simp only [blkRow, blkLen, rbRow, quarter_yc] at hi hi'
        have hj : j = j' := quarter_inj c j j' (by omega)
        subst hj
        have : k = k' := Fin.ext (by omega)
        subst this; exact h rfl

/-- Every element of a result is in a block. -/
theorem blk_cover (c : Dev nD) : Finset.univ.biUnion (blk c) = Finset.univ := by
  ext i
  simp only [Finset.mem_biUnion, Finset.mem_univ, true_and, iff_true]
  have hi : (i 0).val < 32768 := (i 0).isLt
  have hy := yc_lt c
  by_cases h : (i 0).val / 16384 = yc c
  · refine ⟨(none, ⟨(i 0).val % 16384 / 1024, by omega⟩), (mem_blk c _ i).mpr ?_⟩
    simp only [blkRow, blkLen]
    omega
  · obtain ⟨j, hj⟩ := quarter_surj c ⟨(i 0).val % 16384 / 4096, by omega⟩
    refine ⟨(some j, ⟨(i 0).val % 4096 / 256, by omega⟩), (mem_blk c _ i).mpr ?_⟩
    simp only [blkRow, blkLen, rbRow, quarter_yc, hj]
    omega

/-- The whole result of a device is its blocks: those of its own half and those of the four quarters. -/
theorem out_blocks (c : Dev nD) (f : Buf (Elt F) ((c : Thread nD τ).loc main_v1)) :
    ((c : Thread nD τ).loc main_v1 ↦{fullShare} f : sProp 𝕄)
      = iprop((bigSep Finset.univ fun k => stP c k f) ∗ (bigSep Finset.univ fun k => rg c c k fullShare f)
          ∗ (bigSep Finset.univ fun k => rg c (xp c) k fullShare f) ∗ (bigSep Finset.univ fun k => rg c (zp c) k fullShare f)
          ∗ bigSep Finset.univ fun k => rg c (xp (zp c)) k fullShare f) := by
  have h : ((c : Thread nD τ).loc main_v1 ↦{fullShare} f : sProp 𝕄)
      = bigSep Finset.univ fun p => (c : Thread nD τ).loc main_v1 ↦[blk c p]{fullShare} f := by
    rw [← pointsTo_biUnion (ℓ := (c : Thread nD τ).loc main_v1) Finset.univ (blk c) (fun p _ p' _ h => blk_disjoint c p p' h)]
    exact congrArg (fun S => ((c : Thread nD τ).loc main_v1 ↦[S]{fullShare} f : sProp 𝕄)) (blk_cover c).symm
  rw [h, bigSep_univ_prod, bigSep_univ_eq_bigSepL [none, some 0, some 1, some 2, some 3] (by decide) (by decide),
    bigSepL_cons_cons, bigSepL_cons_cons, bigSepL_cons_cons, bigSepL_cons_cons, bigSepL_singleton]
  rfl

/-- Disjoint blocks are taken out of a whole buffer, and the rest of it. -/
theorem take_out {ℓ : Loc nD τ sig} (S : Fin 16 → Finset (Idx ℓ)) (hS : ∀ k k', k ≠ k' → Disjoint (S k) (S k')) (q : PosShare TreeShare) (f : Buf (Elt F) ℓ) :
    (ℓ ↦{q} f : sProp 𝕄) ⊣⊢ iprop((bigSep Finset.univ fun k => ℓ ↦[S k]{q} f) ∗ ℓ ↦[Finset.univ \ Finset.univ.biUnion S]{q} f) := by
  rw [← pointsTo_biUnion Finset.univ S (fun k _ k' _ h => hS k k' h)]
  exact pointsTo_split_subset (Finset.subset_univ _)

/-! ## What the copies leave -/

/-- An element of the result, by the element of the argument that belongs there. -/
theorem outF_eq (c e : Dev nD) (i : S32768x1024.Idx) (j : S16384x2048.Idx) (he : origin c (i 0).val = e)
    (h0 : (j 0).val = (i 0).val % 16384) (h1 : (j 1).val = 1024 * yc c + (i 1).val) : outF m c i = X m e j := by
  subst he
  unfold outF
  refine congrArg (X m _) (funext fun a => ?_)
  fin_cases a
  · exact Fin.ext h0.symm
  · exact Fin.ext h1.symm

/-- The number of a device from its y coordinate and its quarter. -/
theorem dev_eq : ∀ c : Dev nD, 4 * (qc c / 2) + 2 * yc c + qc c % 2 = c.val := by decide

/-- What a copy writes at an element under its destination: the element of the source at the same place. -/
theorem write_read_emb {sp sp' : Space} {s : Shape} {e : EltTy} (v : View sig .tc sp s e) (w : View sig .tc sp' s e) (fd : v.ty.Contents (Elt F))
    (fs : w.ty.Contents (Elt F)) (x : s.Idx) :
    v.write (Elt F) fd (w.read (Elt F) fs) Finset.univ (v.emb x)
      = _root_.cast ((congrArg (Elt F) w.elt_eq).trans (congrArg (Elt F) v.elt_eq.symm)) (fs (w.emb x)) := by
  rw [View.write_emb_of_mem _ _ (Finset.mem_univ x), View.read_apply, cast_cast]

/-- The y copies bring to the y neighbour what belongs there. -/
theorem land_y (c : Dev nD) (k : Fin 16) (fd : Buf (Elt F) ((yp c : Thread nD τ).loc main_v1)) (i : S32768x1024.Idx) (hi : i ∈ (rb (yp c) k).view.set) :
    (rb (yp c) k).view.write (Elt F) fd ((srcB c k).view.read (Elt F) (X m c)) Finset.univ i = outF m (yp c) i := by
  obtain ⟨x, -, rfl⟩ := Finset.mem_map.mp hi
  refine (write_read_emb (rb (yp c) k).view (srcB c k).view fd (X m c) x).trans ((cast_eq rfl _).trans ?_)
  have hk := k.isLt
  have hy := yc_lt c
  have hq := qc_lt c
  have hd := dev_eq c
  have hx : (x 0).val < 256 := (x 0).isLt
  have key : ∀ (i : S32768x1024.Idx) (j : S16384x2048.Idx), (i 0).val = rbRow (yp c) k + 1 * (x 0).val → (i 1).val = 0 + 1 * (x 1).val
      → (j 0).val = 4096 * qc c + 256 * k.val + 1 * (x 0).val → (j 1).val = 1024 * (1 - yc c) + 1 * (x 1).val → outF m (yp c) i = X m c j := by
    intro i j r0 r1 s0 s1
    rw [rbRow, yc_yp, qc_yp] at r0
    refine outF_eq m (yp c) c i j ?_ ?_ ?_
    · unfold origin
      rw [if_neg (by rw [yc_yp]; omega)]
      refine Fin.ext ?_
      show 4 * _ + 2 * (1 - yc (yp c)) + _ = c.val
      rw [yc_yp]
      omega
    · rw [r0, s0]; omega
    · rw [r1, s1, yc_yp]; omega
  exact (key _ _ rfl rfl rfl rfl).symm

/-- Devices with one y coordinate have the same other half in the end. -/
theorem outF_same (c c' : Dev nD) (h : yc c' = yc c) (i : S32768x1024.Idx) (hi : (i 0).val / 16384 ≠ yc c) : outF m c' i = outF m c i := by
  have ho : origin c' (i 0).val = origin c (i 0).val := by
    unfold origin
    simp only [h, if_neg hi]
  exact outF_eq m c' (origin c (i 0).val) i _ ho rfl (by rw [h]; rfl)

/-- The forwarding copies bring what belongs there. -/
theorem land_f (c c' e : Dev nD) (h : yc c' = yc c) (he : yc e = yc c) (k : Fin 16) (fd : Buf (Elt F) ((c' : Thread nD τ).loc main_v1))
    (i : S32768x1024.Idx) (hi : i ∈ (rb e k).view.set) :
    (rb e k).view.write (Elt F) fd ((rb e k).view.read (Elt F) (outF m c)) Finset.univ i = outF m c' i := by
  have hi' := (mem_rb e k i).mp hi
  have hs : outF m c' i = outF m c i := outF_same m c c' h i (by
    have := yc_lt c
    have := qc_lt e
    rw [rbRow, he] at hi'
    omega)
  obtain ⟨x, -, rfl⟩ := Finset.mem_map.mp hi
  exact (write_read_emb (rb e k).view (rb e k).view fd (outF m c) x).trans ((cast_eq rfl _).trans hs.symm)

/-- The local stores write what belongs there, when the staging half holds the chunk. -/
theorem land_st (c : Dev nD) (k : Fin 16) (b : Fin 2) (fd : Buf (Elt F) ((c : Thread nD τ).loc main_v1)) (g : Buf (Elt F) ((c : Thread nD τ).loc cc0_scratch0))
    (hg : (vBuf b).view.read (Elt F) g = (ldB c k).view.read (Elt F) (X m c)) (i : S32768x1024.Idx) (hi : i ∈ (stB c k).view.set) :
    (stB c k).view.write (Elt F) fd ((vBuf b).view.read (Elt F) g) Finset.univ i = outF m c i := by
  rw [hg]
  obtain ⟨x, -, rfl⟩ := Finset.mem_map.mp hi
  refine (write_read_emb (stB c k).view (ldB c k).view fd (X m c) x).trans ((cast_eq rfl _).trans ?_)
  have hk := k.isLt
  have hy := yc_lt c
  have hx : (x 0).val < 1024 := (x 0).isLt
  have key : ∀ (i : S32768x1024.Idx) (j : S16384x2048.Idx), (i 0).val = 16384 * yc c + 1024 * k.val + 1 * (x 0).val → (i 1).val = 0 + 1 * (x 1).val
      → (j 0).val = 1024 * k.val + 1 * (x 0).val → (j 1).val = 1024 * yc c + 1 * (x 1).val → outF m c i = X m c j := by
    intro i j r0 r1 s0 s1
    refine outF_eq m c c i j ?_ ?_ ?_
    · unfold origin
      rw [if_pos (by omega)]
    · rw [r0, s0]; omega
    · rw [r1, s1]; omega
  exact (key _ _ rfl rfl rfl rfl).symm

end Cert.A2A
-- ==== Proof.Steps.lean ====
/-
One rule per operation of the kernel, and the rule for its loops.

Each rule says what a device must hold to run one operation, whatever follows it, and what it holds afterwards. The loop
rule runs sixteen steps in order, each with its own piece, when every step keeps a state that the next one starts from.
-/
module

public import proofs.«01_k».proof.Proof.Blocks
public import Idealize.ShloMosaic.Lib.Pipeline.BigSepL

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-- No loop of the kernel needs a measure. -/
abbrev 𝒱₀ : Variants := Variants.none

/-! ## What everybody knows -/

/-- The records that every device has: each semaphore keeps the schedule, has reached its first round, and has its level. -/
def recs : sProp 𝕄 :=
  iprop((bigSep Finset.univ fun p : Dev nD × SemLoc sig => cellInv ER (Rd m) (K p) ((p.1 : Thread nD τ), p.2))
    ∗ (bigSep Finset.univ fun p : Dev nD × SemLoc sig => reached ER ((p.1 : Thread nD τ), p.2) 0) ∗ levAts L lv)

/-- The records are known for good. -/
instance recs_persistent : BI.Persistent (recs m K) := by unfold recs; infer_instance

/-- Each semaphore keeps the schedule, -/
theorem recs_inv (c : Dev nD) (κ : Kd) : recs m K ⊢ cellInv ER (Rd m) (K (c, κ.loc)) (cell c κ) := by
  unfold recs
  iintro ⟨H, -, -⟩
  have h : (bigSep Finset.univ fun p : Dev nD × SemLoc sig => cellInv ER (Rd m) (K p) ((p.1 : Thread nD τ), p.2)) ⊢ cellInv ER (Rd m) (K (c, κ.loc)) (cell c κ) := bigSep_elim (Finset.mem_univ (c, κ.loc))
  iapply h
  iexact H
/-- has reached its first round, -/
theorem recs_reached (c : Dev nD) (κ : Kd) : recs m K ⊢ reached ER (cell c κ) 0 := by
  unfold recs
  iintro ⟨-, H, -⟩
  have h : (bigSep Finset.univ fun p : Dev nD × SemLoc sig => (reached ER ((p.1 : Thread nD τ), p.2) 0 : sProp 𝕄)) ⊢ reached ER (cell c κ) 0 := bigSep_elim (Finset.mem_univ (c, κ.loc))
  iapply h
  iexact H
/-- and has its level. -/
theorem recs_lev : recs m K ⊢ levAts L lv := by
  unfold recs
  iintro ⟨-, -, H⟩
  iexact H

/-! ## What a device holds -/

/-- What device `c` owes, -/
def ow (c : Dev nD) (O : CellTallies nD τ sig Unit) : sProp 𝕄 := iprop(∃ W, owes (c : Thread nD τ) O W)
/-- that it is about to wait for round `r` of its semaphore `κ`, -/
abbrev pos (c : Dev nD) (κ : Kd) (r : ℕ) : sProp 𝕄 := atPos ER (cell c κ) r ∅ 0
/-- the right to make contribution `d` to round `r` of a semaphore, -/
abbrev tok (c : Dev nD) (κ : Kd) (r : ℕ) (d : D) : sProp 𝕄 := dutyTok ER (cell c κ) r d
/-- and that a contribution to its semaphore `κ` is on its way. -/
abbrev crd (c : Dev nD) (κ : Kd) : sProp 𝕄 := cred (tallyAt (cell c κ) () (amt κ))

/-- After the operations `l` device `c` holds `Q`. -/
abbrev WP (c : Dev nD) (l : List (Op F)) (Q : sProp 𝕄) : sProp 𝕄 :=
  wp frame (wpE (defs₀ (F := F)) 𝒱₀ (c : Thread nD τ) none) Set.univ (run l) fun _ => Q

/-- Running two lists one after the other is running their concatenation. -/
theorem run_append (l₁ l₂ : List (Op F)) : run (l₁ ++ l₂) = (run l₁ >>= fun _ => run l₂) := by
  induction l₁ with
  | nil => rfl
  | cons e l ih => rw [List.cons_append, run_cons, run_cons, Prog.bind_op, ih]

/-- No operation. -/
theorem wp_done (c : Dev nD) (Q : sProp 𝕄) : Q ⊢ WP c [] Q := le_wp_ret frame (wpE (defs₀ (F := F)) 𝒱₀ (c : Thread nD τ) none) Set.univ PUnit.unit (fun _ => Q)
/-- One list of operations after another. -/
theorem wp_app (c : Dev nD) {l₁ l₂ : List (Op F)} {P R Q : sProp 𝕄} (h₁ : P ⊢ WP c l₁ R) (h₂ : R ⊢ WP c l₂ Q) : P ⊢ WP c (l₁ ++ l₂) Q := by
  unfold WP
  rw [run_append, wp_bind]
  exact h₁.trans (wp_mono _ _ _ fun _ => h₂)
/-- The same where all know the records. -/
theorem wp_seq (c : Dev nD) {l₁ l₂ : List (Op F)} {P R Q : sProp 𝕄} (h₁ : iprop(recs m K ∗ P) ⊢ WP c l₁ R) (h₂ : iprop(recs m K ∗ R) ⊢ WP c l₂ Q) :
    iprop(recs m K ∗ P) ⊢ WP c (l₁ ++ l₂) Q := by
  refine wp_app c (R := iprop(recs m K ∗ R)) ?_ h₂
  iintro ⟨#HR, HP⟩
  iapply (wp_frame_l (R := recs m K) frame (wpE (defs₀ (F := F)) 𝒱₀ (c : Thread nD τ) none) Set.univ)
  isplitr; · iexact HR
  iapply h₁
  isplitr; · iexact HR
  iexact HP
/-- What a list does not need stays. -/
theorem wp_keep (c : Dev nD) {l : List (Op F)} {P Q : sProp 𝕄} (R : sProp 𝕄) (h : iprop(recs m K ∗ P) ⊢ WP c l Q) :
    iprop(recs m K ∗ P ∗ R) ⊢ WP c l iprop(Q ∗ R) := by
  iintro ⟨HR, HP, H⟩
  iapply (wp_frame_r (R := R) frame (wpE (defs₀ (F := F)) 𝒱₀ (c : Thread nD τ) none) Set.univ)
  isplitl [HR HP]
  · iapply h
    isplitl [HR] <;> iassumption
  iexact H

/-- A list with what it takes drawn from what is held, and what it leaves put back. -/
theorem wp_last (c : Dev nD) {l : List (Op F)} {P Q P' Z : sProp 𝕄} (h : iprop(recs m K ∗ P) ⊢ WP c l Q) {R : sProp 𝕄} (e : P' ⊢ iprop(P ∗ R))
    (e' : iprop(Q ∗ R) ⊢ Z) : iprop(recs m K ∗ P') ⊢ WP c l Z :=
  ((sep_mono .rfl e).trans (wp_keep m K c R h)).trans (wp_mono _ _ _ fun _ => e')
/-- The same in front of another list. -/
theorem wp_step (c : Dev nD) {l₁ l₂ : List (Op F)} {P Q P' Z : sProp 𝕄} (h : iprop(recs m K ∗ P) ⊢ WP c l₁ Q) {R : sProp 𝕄} (e : P' ⊢ iprop(P ∗ R))
    (h₂ : iprop(recs m K ∗ Q ∗ R) ⊢ WP c l₂ Z) : iprop(recs m K ∗ P') ⊢ WP c (l₁ ++ l₂) Z :=
  wp_seq m K c (wp_last m K c h e .rfl) h₂

/-- Sixteen steps, the `k`th turning the state `T k` and its piece `A k` into the state `T (k + 1)` and the piece `B k`, turn
    the first state and all pieces into the last state and all pieces. -/
theorem wp_loop (c : Dev nD) (f : Fin 16 → List (Op F)) (T : ℕ → sProp 𝕄) (A B : Fin 16 → sProp 𝕄)
    (h : ∀ k : Fin 16, iprop(recs m K ∗ T k.val ∗ A k) ⊢ WP c (f k) iprop(T (k.val + 1) ∗ B k)) :
    iprop(recs m K ∗ T 0 ∗ bigSep Finset.univ A) ⊢ WP c (all16.flatMap f) iprop(T 16 ∗ bigSep Finset.univ B) := by
  have key : ∀ (l : List (Fin 16)) (n : ℕ), (∀ i (hi : i < l.length), (l[i]).val = n + i) →
      iprop(recs m K ∗ T n ∗ bigSepL l A) ⊢ WP c (l.flatMap f) iprop(T (n + l.length) ∗ bigSepL l B) := by
    intro l
    induction l with
    | nil =>
      intro n _
      refine BIBase.Entails.trans ?_ (wp_done c _)
      iintro ⟨-, H⟩
      iexact H
    | cons k l ih =>
      intro n hn
      have hk : k.val = n := hn 0 (Nat.succ_pos _)
      have hl : n + (k :: l).length = (n + 1) + l.length := by rw [List.length_cons]; omega
      rw [List.flatMap_cons, bigSepL_cons', bigSepL_cons', hl]
      refine wp_seq m K c (R := iprop((T (n + 1) ∗ B k) ∗ bigSepL l A)) ?_ ?_
      · refine BIBase.Entails.trans ?_ (wp_keep m K c (P := iprop(T n ∗ A k)) (bigSepL l A) (hk ▸ h k))
        iintro ⟨HR, HT, HA, HL⟩
        isplitl [HR]; · iexact HR
        isplitl [HT HA]
        · isplitl [HT] <;> iassumption
        iexact HL
      · refine BIBase.Entails.trans ?_ ((wp_keep m K c (P := iprop(T (n + 1) ∗ bigSepL l A)) (B k) (ih (n + 1) fun i hi => by
          have := hn (i + 1) (Nat.succ_lt_succ hi)
          rw [List.getElem_cons_succ] at this
          omega)).trans ?_)
        · iintro ⟨HR, ⟨HT, HB⟩, HL⟩
          isplitl [HR]; · iexact HR
          isplitr [HB]
          · isplitl [HT] <;> iassumption
          iexact HB
        · refine wp_mono _ _ _ fun _ => ?_
          iintro ⟨⟨HT, HL⟩, HB⟩
          isplitl [HT]; · iexact HT
          isplitl [HB] <;> iassumption
  rw [bigSep_univ_eq_bigSepL all16 (by decide) (by decide), bigSep_univ_eq_bigSepL all16 (by decide) (by decide)]
  exact key all16 0 (by decide)

/-! ## The operations -/

/-- A signal to the barrier of device `t`: one contribution, with what it permits. -/
theorem step_sig (c : Dev nD) {l : List (Op F)} {Q : sProp 𝕄} (t : Dev nD) (d : D) (O : CellTallies nD τ sig Unit) :
    iprop(recs m K ∗ ow c (O + tallyAt (cell t .bar) () 1) ∗ tok t .bar 0 d ∗ pay m t 0 d .bar)
      ⊢ iprop((ow c O -∗ WP c l Q) -∗ WP c (sigOp t :: l) Q) := by
  unfold ow
  iintro ⟨#HR, ⟨%W, HO⟩, Ht, Hp⟩ Hk
  iapply (Rounds.wp_signal 𝒱₀ ER (Rd m) (c : Thread nD τ) none (dst := (t : Thread nD τ)) (κ := K (t, Kd.bar.loc)) (r := 0)
      (d := d) (by rw [show ((t : Thread nD τ), SemLoc.reg barS) = cell t .bar from rfl, duties_bar]; exact Finset.mem_univ _)
      (amount_eq m t .bar 0 d) () O rfl) $$ [HO Ht Hp]
  · isplitr; · iapply (recs_inv m K t .bar); iexact HR
    isplitl [HO]; · iexact HO
    isplitl [Ht]; · iexact Ht
    isplitl [Hp]; · rw [show ((t : Thread nD τ), SemLoc.reg barS) = cell t .bar from rfl, payload_eq]; iexact Hp
    iapply (recs_reached m K t .bar); iexact HR
  iintro HO
  iapply Hk
  iexists W; iexact HO

/-- A wait for the three signals: the neighbours' permissions. -/
theorem step_bar (c : Dev nD) {l : List (Op F)} {Q : sProp 𝕄} (O : CellTallies nD τ sig Unit) (hO : Above 1 O) :
    iprop(recs m K ∗ cred (tallyAt (cell c .bar) () 3) ∗ ow c O ∗ pos c .bar 0)
      ⊢ iprop(((ow c O ∗ pos c .bar 1 ∗ grantY m (yp c) ∗ grantX m (xp c) ∗ grantZ m (zp c)) -∗ WP c l Q) -∗ WP c (waitBarOp :: l) Q) := by
  unfold ow
  iintro ⟨#HR, Hc, ⟨%W, HO⟩, Hp⟩ Hk
  iapply (Rounds.wp_wait_rest_token 𝒱₀ ER (Rd m) (c : Thread nD τ) none (κ := K (c, Kd.bar.loc))
      (wpE_semWait_eq 𝒱₀ (c : Thread nD τ) none Set.univ) (Set.mem_univ _) () (O := O) (W := W) (R := 0) (m := 0) (T := ∅)
      (by rw [show ((c : Thread nD τ), SemLoc.reg barS) = cell c .bar from rfl, expect_bar])) $$ [Hc HO Hp]
  · isplitr; · iapply (recs_inv m K c .bar); iexact HR
    isplitl [Hc]; · iexact Hc
    isplitl [HO]; · iexact HO
    isplitr; · iapply (mayWait c .bar hO (Nat.le_refl 1)); iapply (recs_lev m K); iexact HR
    iexact Hp
  iintro ⟨HO, Hp, -, Hpay⟩
  ihave Hpay := (show bigSep ((Rd m).duties ((c : Thread nD τ), SemLoc.reg barS) 0 \ ∅) (fun d => (Rd m).payload ((c : Thread nD τ), SemLoc.reg barS) 0 d) ⊢ _ from Entails.of_eq (rest_bar m c)) $$ Hpay
  iapply Hk
  isplitl [HO]; · iexists _; iexact HO
  isplitl [Hp]; · iexact Hp
  iexact Hpay

/-- A wait for round `r` of a semaphore other than the barrier. -/
theorem step_wait (c : Dev nD) {l : List (Op F)} {Q : sProp 𝕄} (κ : Kd) (r : ℕ) (hr : r < rounds κ) (hκ : κ ≠ .bar) (s : DmaSem sig) (hs : κ.loc = .dma s)
    {sp sp' : Space} {sh : Shape} {e : EltTy} (src : Memref sig .tc sp sh e) (dst : Memref sig .tc sp' sh e)
    (h₁ : src.view.WordExact) (h₂ : dst.view.WordExact) (hn : dst.view.dmaCredit = amt κ)
    (O : CellTallies nD τ sig Unit) (n : ℕ) (hO : Above n O) (hl : level κ ≤ n) :
    iprop(recs m K ∗ crd c κ ∗ ow c O ∗ pos c κ r)
      ⊢ iprop(((ow c O ∗ pos c κ (r + 1) ∗ reached ER (cell c κ) (r + 1) ∗ pay m c r 0 κ) -∗ WP c l Q)
          -∗ WP c (.waitDma2 s src dst h₁ h₂ :: l) Q) := by
  unfold ow
  have hw : ∀ J : PUnit → sProp 𝕄, wpE (defs₀ (F := F)) 𝒱₀ (c : Thread nD τ) none Set.univ (.waitDma2 s src dst h₁ h₂) J
      = waitSpec (c : Thread nD τ) Set.univ κ.loc (amt κ) J := by
    intro J; rw [hs, ← hn]; exact wpE_waitDma2_eq 𝒱₀ (c : Thread nD τ) none Set.univ J
  iintro ⟨#HR, Hc, ⟨%W, HO⟩, Hp⟩ Hk
  iapply (Rounds.wp_wait_rest_token 𝒱₀ ER (Rd m) (c : Thread nD τ) none (κ := K (c, κ.loc))
      hw (Set.mem_univ _) () (O := O) (W := W) (R := r) (m := 0) (T := ∅)
      (by rw [Nat.zero_add]; exact (expect_eq m c κ hr hκ).symm)) $$ [Hc HO Hp]
  · isplitr; · iapply (recs_inv m K c κ); iexact HR
    isplitl [Hc]; · iexact Hc
    isplitl [HO]; · iexact HO
    isplitr; · iapply (mayWait c κ hO hl); iapply (recs_lev m K); iexact HR
    iexact Hp
  iintro ⟨HO, Hp, Hr, Hpay⟩
  ihave Hpay := (Entails.of_eq (rest_eq m c κ hr hκ)) $$ Hpay
  iapply Hk
  isplitl [HO]; · iexists _; iexact HO
  isplitl [Hp]; · iexact Hp
  isplitl [Hr] <;> iassumption

/-- A copy to device `t`: it needs the source and the destination, takes what it owes off, and gives the source to this
    device's semaphore `κs` and the written destination to `κr` of device `t`. -/
theorem step_send (c : Dev nD) {l : List (Op F)} {Q : sProp 𝕄} (t : Dev nD) (κs κr : Kd) (hs₀ : 0 < rounds κs) (hr₀ : 0 < rounds κr) (hsb : κs ≠ .bar) (hrb : κr ≠ .bar)
    (ss rs : DmaSem sig) (hs : κs.loc = .dma ss) (hr : κr.loc = .dma rs) (hsn : amt κs = N) (hrn : amt κr = N)
    (src dst : Memref sig .tc .hbm S256x1024 .f32) (hn : dst.view.dmaCredit = N) (O : CellTallies nD τ sig Unit)
    (q : PosShare TreeShare) (fs : Buf (Elt F) (src.view.loc (c : Thread nD τ))) (fd : Buf (Elt F) (dst.view.loc (t : Thread nD τ)))
    (hpay₁ : (src.view.loc (c : Thread nD τ) ↦[src.view.set]{q} fs : sProp 𝕄) ⊢ pay m c 0 0 κs)
    (hpay₂ : (dst.view.loc (t : Thread nD τ) ↦[dst.view.set]{fullShare} (dst.view.write (Elt F) fd (src.view.read (Elt F) fs) Finset.univ) : sProp 𝕄)
      ⊢ pay m t 0 0 κr) :
    iprop(recs m K ∗ (src.view.loc (c : Thread nD τ) ↦[src.view.set]{q} fs) ∗ (dst.view.loc (t : Thread nD τ) ↦[dst.view.set]{fullShare} fd)
        ∗ ow c (O + tallyAt (cell t κr) () N) ∗ tok c κs 0 0 ∗ tok t κr 0 0)
      ⊢ iprop(((crd c κs ∗ ow c O) -∗ WP c l Q) -∗ WP c (sendOp t src dst ss rs :: l) Q) := by
  unfold ow
  have e₁ : ((c : Thread nD τ), SemLoc.dma ss) = cell c κs := by rw [← hs]
  have e₂ : ((t : Thread nD τ), SemLoc.dma rs) = cell t κr := by rw [← hr]
  have st := fun W : Waits sig Unit => Rounds.wp_send_pointsTo (defs := defs₀ (F := F)) (Γ := ∅) (Es := Set.univ) (k := fun _ => run l) (Q := fun _ : PUnit => Q)
    𝒱₀ ER (Rd m) (c : Thread nD τ) none (c' := (t : Thread nD τ)) (src := src) (dst := dst) (sS := .dma ss) (sem := .dma rs)
    (hsrc := View.wordExact_bits rfl) (hdst := View.wordExact_bits rfl) (hsc := rfl) (hsem := ⟨⟨rfl, Or.inl rfl⟩, trivial⟩)
    (κ₁ := K (c, κs.loc)) (κ₂ := K (t, κr.loc)) (r₁ := 0) (r₂ := 0) (d₁ := 0) (d₂ := 0) (fs := fs) (fd := fd) (q := q)
    (by rw [e₁, duties_eq m c κs hs₀ hsb]; exact Finset.mem_singleton_self _) (by rw [e₂, duties_eq m t κr hr₀ hrb]; exact Finset.mem_singleton_self _)
    () () N hn (by rw [e₁, amount_eq, hsn]) (by rw [e₂, amount_eq, hrn]) O rfl (W := W)
    (by rw [e₁, payload_eq]; exact hpay₁) (by rw [e₂, payload_eq]; exact hpay₂)
  rw [e₁, e₂] at st
  iintro ⟨#HR, Hs, Hd, ⟨%W, HO⟩, Ht, Ht'⟩ Hk
  iapply (st W) $$ [Hs Hd HO Ht Ht']
  · isplitr; · iapply (recs_inv m K c κs); iexact HR
    isplitr; · iapply (recs_inv m K t κr); iexact HR
    isplitl [Hs]; · iexact Hs
    isplitl [Hd]; · iexact Hd
    isplitl [HO]; · iexact HO
    isplitl [Ht]; · iexact Ht
    isplitr; · iapply (recs_reached m K c κs); iexact HR
    isplitl [Ht']; · iexact Ht'
    iapply (recs_reached m K t κr); iexact HR
  iintro ⟨Hc, HO⟩
  iapply Hk
  isplitl [Hc]; · unfold crd; rw [hsn]; iexact Hc
  iexists W; iexact HO

/-- A copy of the device's own: it gives the source and the written destination to round `r` of its semaphore `κ`. -/
theorem step_copy (c : Dev nD) {l : List (Op F)} {Q : sProp 𝕄} (κ : Kd) (r : ℕ) (hr : r < rounds κ) (hκ : κ ≠ .bar) (s : DmaSem sig) (hs : κ.loc = .dma s)
    {sp sp' : Space} {sh : Shape} {e : EltTy} (src : Memref sig .tc sp sh e) (dst : Memref sig .tc sp' sh e)
    (h₁ : src.view.WordExact) (h₂ : dst.view.WordExact) (h₃ : DmaTarget.Typed (nD := nD) (τ := τ) (p := Proc.tc) sp (.dma s) (.here dst)) (hn : dst.view.dmaCredit = amt κ)
    (q : PosShare TreeShare) (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
      ∗ (src.view.loc (c : Thread nD τ) ↦[src.view.set]{q} fs)) ⊢ (pay m c r 0 κ : sProp 𝕄)) :
    iprop(recs m K ∗ (src.view.loc (c : Thread nD τ) ↦[src.view.set]{q} fs) ∗ (dst.view.loc (c : Thread nD τ) ↦[dst.view.set]{fullShare} fd)
        ∗ tok c κ r 0 ∗ reached ER (cell c κ) r)
      ⊢ iprop((crd c κ -∗ WP c l Q) -∗ WP c (.enqueueDma src (.here dst) (.dma s) h₁ h₂ h₃ :: l) Q) := by
  have e₁ : ((c : Thread nD τ), SemLoc.dma s) = cell c κ := by rw [← hs]
  have st := Rounds.wp_copy_pointsTo (defs := defs₀ (F := F)) (Γ := ∅) (Es := Set.univ) (k := fun _ => run l) (Q := fun _ : PUnit => Q)
    𝒱₀ ER (Rd m) (c : Thread nD τ) none (src := src) (dst := dst) (sem := .dma s) (hsrc := h₁) (hdst := h₂) (hsem := h₃)
    (κ := K (c, κ.loc)) (r := r) (d := 0) (fs := fs) (fd := fd) (q := q)
    (by rw [e₁, duties_eq m c κ hr hκ]; exact Finset.mem_singleton_self _) () (amt κ) hn (by rw [e₁, amount_eq])
    (by rw [e₁, payload_eq]; exact hpay)
  rw [e₁] at st
  iintro ⟨#HR, Hs, Hd, Ht, Hr⟩ Hk
  iapply st $$ [Hs Hd Ht Hr]
  · isplitr; · iapply (recs_inv m K c κ); iexact HR
    isplitl [Hs]; · iexact Hs
    isplitl [Hd]; · iexact Hd
    isplitl [Ht] <;> iassumption
  iexact Hk

end Cert.A2A
-- ==== Proof.Body.lean ====
/-
The kernel on one device, phase by phase.

Each loop of the kernel is one theorem here: what its `k`th step takes and leaves, for every device and every chunk.
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## What is owed -/

/-- The chunks from the `n`th on. -/
def rem (n : ℕ) : Finset (Fin 16) := Finset.univ.filter fun k => n ≤ k.val

/-- The chunks from the `k`th on are the `k`th and those after it. -/
theorem rem_step (k : Fin 16) : rem k.val = insert k (rem (k.val + 1)) := by
  ext j
  simp only [rem, Finset.mem_filter, Finset.mem_univ, true_and, Finset.mem_insert]
  constructor
  · intro h
    rcases Nat.lt_or_ge k.val j.val with h' | h'
    · exact Or.inr h'
    · exact Or.inl (Fin.ext (by omega))
  · rintro (rfl | h) <;> omega
/-- No chunk is left after sixteen. -/
theorem rem_end : rem 16 = ∅ := by
  ext j
  simp only [rem, Finset.mem_filter, Finset.mem_univ, true_and, Finset.notMem_empty, iff_false]
  have := j.isLt
  omega
/-- At the start all are left. -/
theorem rem_start : rem 0 = Finset.univ := by
  ext j
  simp only [rem, Finset.mem_filter, Finset.mem_univ, true_and, Nat.zero_le]

/-- What device `c` owes, from chunk `n` on, to the semaphores on which its copies arrive: over y, over x, over z and on the
    second hop. -/
def owY (c : Dev nD) (n : ℕ) : CellTallies nD τ sig Unit := ∑ k ∈ rem n, tallyAt (cell (yp c) (.yr k)) () N
/-- The same over x, -/
def owX (c : Dev nD) (n : ℕ) : CellTallies nD τ sig Unit := ∑ k ∈ rem n, tallyAt (cell (xp c) (.xr k)) () N
/-- over z, -/
def owZ (c : Dev nD) (n : ℕ) : CellTallies nD τ sig Unit := ∑ k ∈ rem n, tallyAt (cell (zp c) (.zr k)) () N
/-- and on the second hop. -/
def owT (c : Dev nD) (n : ℕ) : CellTallies nD τ sig Unit := ∑ k ∈ rem n, tallyAt (cell (tp k c) (.tr k)) () N

/-- A sum over the chunks from the `k`th on, with the `k`th taken out. -/
theorem sum_step (T : Fin 16 → CellTallies nD τ sig Unit) (k : Fin 16) : ∑ j ∈ rem k.val, T j = (∑ j ∈ rem (k.val + 1), T j) + T k := by
  rw [rem_step, Finset.sum_insert (by simp only [rem, Finset.mem_filter, not_and]; intro _; omega), add_comm]

/-- What is owed over y before chunk `k` is what is owed after it and the arrival of chunk `k`; -/
theorem owY_step (c : Dev nD) (k : Fin 16) : owY c k.val = owY c (k.val + 1) + tallyAt (cell (yp c) (.yr k)) () N := sum_step _ k
/-- so over x, -/
theorem owX_step (c : Dev nD) (k : Fin 16) : owX c k.val = owX c (k.val + 1) + tallyAt (cell (xp c) (.xr k)) () N := sum_step _ k
/-- over z, -/
theorem owZ_step (c : Dev nD) (k : Fin 16) : owZ c k.val = owZ c (k.val + 1) + tallyAt (cell (zp c) (.zr k)) () N := sum_step _ k
/-- and on the second hop. -/
theorem owT_step (c : Dev nD) (k : Fin 16) : owT c k.val = owT c (k.val + 1) + tallyAt (cell (tp k c) (.tr k)) () N := sum_step _ k
/-- After the last chunk nothing is owed over y, -/
theorem owY_end (c : Dev nD) : owY c 16 = 0 := by unfold owY; rw [rem_end, Finset.sum_empty]
/-- over x, -/
theorem owX_end (c : Dev nD) : owX c 16 = 0 := by unfold owX; rw [rem_end, Finset.sum_empty]
/-- over z, -/
theorem owZ_end (c : Dev nD) : owZ c 16 = 0 := by unfold owZ; rw [rem_end, Finset.sum_empty]
/-- or on the second hop. -/
theorem owT_end (c : Dev nD) : owT c 16 = 0 := by unfold owT; rw [rem_end, Finset.sum_empty]

/-- What is owed over y is owed above the level of the barrier; -/
theorem owY_above (c : Dev nD) (n : ℕ) : Above 1 (owY c n) := Above.sum _ fun k => Above.at _ _ _ (by show 1 < 2; decide)
/-- what is owed over x is above the level of the arrivals over y, -/
theorem owX_above (c : Dev nD) (n : ℕ) : Above 2 (owX c n) := Above.sum _ fun k => Above.at _ _ _ (by show 2 < 3; decide)
/-- and so is what is owed over z; -/
theorem owZ_above (c : Dev nD) (n : ℕ) : Above 2 (owZ c n) := Above.sum _ fun k => Above.at _ _ _ (by show 2 < 3; decide)
/-- what is owed on the second hop is above the level of both. -/
theorem owT_above (c : Dev nD) (n : ℕ) : Above 3 (owT c n) := Above.sum _ fun k => Above.at _ _ _ (by show 3 < 4; decide)
/-- What is above a level is above any lower one. -/
theorem Above.weaken {n n' : ℕ} {O : CellTallies nD τ sig Unit} (h : Above n O) (hn : n' ≤ n) : Above n' O :=
  fun g u hg => ⟨(h g u hg).1, Nat.lt_of_le_of_lt hn (h g u hg).2⟩

/-- What is owed while the own half is copied and the quarter forwarded, after `n` chunks. -/
def owM (c : Dev nD) (n : ℕ) : CellTallies nD τ sig Unit := owT c 0 + owX c n + owZ c n
/-- All that is owed in the second loop is above the level of the arrivals over y. -/
theorem owM_above (c : Dev nD) (n : ℕ) : Above 2 (owM c n) := (((owT_above c 0).weaken (by decide)).add (owX_above c n)).add (owZ_above c n)
/-- A chunk of the second loop pays its two arrivals, over x and over z. -/
theorem owM_step (c : Dev nD) (k : Fin 16) :
    owM c k.val = (owM c (k.val + 1) + tallyAt (cell (zp c) (.zr k)) () N) + tallyAt (cell (xp c) (.xr k)) () N := by
  unfold owM
  rw [owX_step, owZ_step, ← add_assoc (owT c 0), add_right_comm (owT c 0 + owX c (k.val + 1)), ← add_assoc (owT c 0 + owX c (k.val + 1))]
/-- After the second loop only the second hop is owed. -/
theorem owM_end (c : Dev nD) : owM c 16 = owT c 0 := by unfold owM; rw [owX_end, owZ_end, add_zero, add_zero]

/-! ## The barrier -/

section
variable (c : Dev nD)

/-- Each device permits its neighbours to fill its result and is permitted to fill theirs. -/
theorem run_bar (O : CellTallies nD τ sig Unit) (hO : Above 1 O) :
    iprop(recs m K ∗ ow c (((O + tallyAt (cell (zp c) .bar) () 1) + tallyAt (cell (xp c) .bar) () 1) + tallyAt (cell (yp c) .bar) () 1)
        ∗ tok (yp c) .bar 0 0 ∗ tok (xp c) .bar 0 1 ∗ tok (zp c) .bar 0 2 ∗ grantY m c ∗ grantX m c ∗ grantZ m c
        ∗ cred (tallyAt (cell c .bar) () 3) ∗ pos c .bar 0)
      ⊢ WP c (opsBar (lay c)) iprop(ow c O ∗ pos c .bar 1 ∗ grantY m (yp c) ∗ grantX m (xp c) ∗ grantZ m (zp c)) := by
  have eY : pay m (yp c) 0 0 .bar = grantY m c := by show grantY m (yp (yp c)) = _; rw [yp_yp]
  have eX : pay m (xp c) 0 1 .bar = grantX m c := by show grantX m (xp (xp c)) = _; rw [xp_xp]
  have eZ : pay m (zp c) 0 2 .bar = grantZ m c := by show grantZ m (zp (zp c)) = _; rw [zp_zp]
  unfold opsBar
  iintro ⟨#HR, HO, HtY, HtX, HtZ, HgY, HgX, HgZ, Hc, Hp⟩
  iapply (step_sig m K c (yp c) 0 _) $$ [HO HtY HgY]
  · isplitr; · iexact HR
    isplitl [HO]; · iexact HO
    isplitl [HtY]; · iexact HtY
    rw [eY]; iexact HgY
  iintro HO
  iapply (step_sig m K c (xp c) 1 _) $$ [HO HtX HgX]
  · isplitr; · iexact HR
    isplitl [HO]; · iexact HO
    isplitl [HtX]; · iexact HtX
    rw [eX]; iexact HgX
  iintro HO
  iapply (step_sig m K c (zp c) 2 _) $$ [HO HtZ HgZ]
  · isplitr; · iexact HR
    isplitl [HO]; · iexact HO
    isplitl [HtZ]; · iexact HtZ
    rw [eZ]; iexact HgZ
  iintro HO
  iapply (step_bar m K c O hO) $$ [Hc HO Hp]
  · isplitr; · iexact HR
    isplitl [Hc]; · iexact Hc
    isplitl [HO] <;> iassumption
  iintro H
  iapply (wp_done c _)
  iexact H

/-! ## Sends and waits of chunks -/

/-- A wait on the only round of a chunk's semaphore. -/
theorem wait_chunk {l : List (Op F)} {Q : sProp 𝕄} (κ : Kd) (hr : rounds κ = 1) (hκ : κ ≠ .bar) (ha : amt κ = N) (s : DmaSem sig) (hs : κ.loc = .dma s)
    (src dst : Memref sig .tc .hbm S256x1024 .f32) (hn : dst.view.dmaCredit = N) (O : CellTallies nD τ sig Unit) (n : ℕ) (hO : Above n O) (hl : level κ ≤ n) :
    iprop(recs m K ∗ crd c κ ∗ ow c O ∗ pos c κ 0)
      ⊢ iprop(((ow c O ∗ pos c κ 1 ∗ pay m c 0 0 κ) -∗ WP c l Q) -∗ WP c (waitOp s src dst :: l) Q) := by
  iintro H Hk
  iapply (step_wait m K c κ 0 (by omega) hκ s hs src dst (View.wordExact_bits rfl) (View.wordExact_bits rfl) (by rw [ha]; exact hn) O n hO hl) $$ H
  iintro ⟨HO, Hp, -, Hpay⟩
  iapply Hk
  isplitl [HO]; · iexact HO
  isplitl [Hp] <;> iassumption

/-- Send chunk `k` over y. -/
theorem send_y {l : List (Op F)} {Q : sProp 𝕄} (k : Fin 16) (O : CellTallies nD τ sig Unit) :
    iprop(recs m K ∗ srcP m c k ∗ rg (yp c) (yp c) k fullShare (out0 m (yp c)) ∗ ow c (O + tallyAt (cell (yp c) (.yr k)) () N)
        ∗ tok c (.ys k) 0 0 ∗ tok (yp c) (.yr k) 0 0)
      ⊢ iprop(((crd c (.ys k) ∗ ow c O) -∗ WP c l Q)
          -∗ WP c (sendOp (yp c) (srcB c k) (rb (yp c) k) (sem16 cc0_scratch1 k) (sem16 cc0_scratch2 k) :: l) Q) :=
  step_send m K c (yp c) (.ys k) (.yr k) Nat.one_pos Nat.one_pos (by intro h; cases h) (by intro h; cases h) _ _ rfl rfl rfl rfl
    (srcB c k) (rb (yp c) k) (credit_rb _ _) O fullShare.left (X m c) (out0 m (yp c)) (Entails.of_eq rfl)
    (Entails.of_eq (pointsTo_congr (ℓ := (yp c : Thread nD τ).loc main_v1) (I := (rb (yp c) k).view.set) (land_y m c k (out0 m (yp c)))))

/-- Forward chunk `k` of the quarter of device `e`, which this device's result holds already, to device `t`. -/
theorem send_f {l : List (Op F)} {Q : sProp 𝕄} (t e : Dev nD) (ht : yc t = yc c) (he : yc e = yc c) (k : Fin 16) (q : PosShare TreeShare)
    (κs κr : Kd) (hs₀ : rounds κs = 1) (hr₀ : rounds κr = 1) (hsb : κs ≠ .bar) (hrb : κr ≠ .bar)
    (ss rs : DmaSem sig) (hs : κs.loc = .dma ss) (hr : κr.loc = .dma rs) (hsn : amt κs = N) (hrn : amt κr = N)
    (hps : pay m c 0 0 κs = rg c e k q (outF m c)) (hpr : pay m t 0 0 κr = rg t e k fullShare (outF m t)) (O : CellTallies nD τ sig Unit) :
    iprop(recs m K ∗ rg c e k q (outF m c) ∗ rg t e k fullShare (out0 m t) ∗ ow c (O + tallyAt (cell t κr) () N) ∗ tok c κs 0 0 ∗ tok t κr 0 0)
      ⊢ iprop(((crd c κs ∗ ow c O) -∗ WP c l Q) -∗ WP c (sendOp t (rb e k) (rb e k) ss rs :: l) Q) :=
  step_send m K c t κs κr (by omega) (by omega) hsb hrb ss rs hs hr hsn hrn (rb e k) (rb e k) (credit_rb _ _) O q (outF m c) (out0 m t)
    (Entails.of_eq hps.symm)
    (Entails.of_eq ((pointsTo_congr (ℓ := (t : Thread nD τ).loc main_v1) (I := (rb e k).view.set) (land_f m c t e ht he k (out0 m t))).trans hpr.symm))

/-- The first loop: all chunks leave over y. -/
theorem run_send (k : Fin 16) (R : CellTallies nD τ sig Unit) :
    iprop(recs m K ∗ ow c (R + owY c k.val) ∗ (srcP m c k ∗ rg (yp c) (yp c) k fullShare (out0 m (yp c)) ∗ tok c (.ys k) 0 0 ∗ tok (yp c) (.yr k) 0 0))
      ⊢ WP c (opsSend (lay c) k) iprop(ow c (R + owY c (k.val + 1)) ∗ crd c (.ys k)) := by
  rw [owY_step, ← add_assoc]
  show _ ⊢ WP c [sendOp (yp c) (srcB c k) (rb (yp c) k) (sem16 cc0_scratch1 k) (sem16 cc0_scratch2 k)] _
  iintro ⟨HR, HO, Hs, Hd, Ht, Ht'⟩
  iapply (send_y m K c k (R + owY c (k.val + 1))) $$ [HR HO Hs Hd Ht Ht']
  · isplitl [HR]; · iexact HR
    isplitl [Hs]; · iexact Hs
    isplitl [Hd]; · iexact Hd
    isplitl [HO]; · iexact HO
    isplitl [Ht] <;> iassumption
  iintro ⟨Hc, HO⟩
  iapply (wp_done c _)
  isplitl [HO] <;> iassumption

/-! ## The own half, through the staging buffer -/

/-- Staging half `b` before its round `r`, free; -/
def Fr (b : Fin 2) (r : ℕ) : sProp 𝕄 :=
  iprop((∃ f, vP c b f) ∗ pos c (.ld b) r ∗ reached ER (cell c (.ld b)) r ∗ pos c (.st b) r ∗ reached ER (cell c (.st b)) r)
/-- and with the store of the round before on its way. -/
def St (b : Fin 2) : ℕ → sProp 𝕄
  | 0 => iprop((∃ f, vP c b f) ∗ pos c (.ld b) 0 ∗ pos c (.st b) 0)
  | r + 1 => iprop(crd c (.st b) ∗ pos c (.ld b) (r + 1) ∗ reached ER (cell c (.ld b)) (r + 1) ∗ pos c (.st b) r)
/-- The chunk of the own half that is finished when chunk `k` is about to be loaded. -/
def Gone (k : Fin 16) : sProp 𝕄 := if 2 ≤ k.val then stP c (before k) (outF m c) else iprop(emp)

/-- Chunk `k` is the one that its staging half holds in round `k / 2`, -/
theorem chunk_par (k : Fin 16) : chunk (par k) (k.val / 2) = k := Fin.ext (by show (2 * (k.val / 2) + k.val % 2) % 16 = k.val; have := k.isLt; omega)
/-- and the round before held the chunk before it. -/
theorem chunk_before (k : Fin 16) (r : ℕ) (h : k.val / 2 = r + 1) : chunk (par k) r = before k :=
  Fin.ext (by show (2 * r + k.val % 2) % 16 = k.val - 2; have := k.isLt; omega)

/-- Round `r` of a half's stores is waited for. -/
theorem wait_store {l : List (Op F)} {Q : sProp 𝕄} (b : Fin 2) (r : ℕ) (hr : r < 8) (j : Fin 16) (hj : chunk b r = j) (O : CellTallies nD τ sig Unit)
    (hO : Above 0 O) :
    iprop(recs m K ∗ ow c O ∗ St c b (r + 1))
      ⊢ iprop(((ow c O ∗ Fr c b (r + 1) ∗ stP c j (outF m c)) -∗ WP c l Q) -∗ WP c (waitStoreOp (sStore b) b (stB c j) :: l) Q) := by
  subst hj
  unfold St
  iintro ⟨#HR, HO, Hc, Hl, Hlr, Hs⟩ Hk
  iapply (step_wait m K c (.st b) r hr (by intro h; cases h) (sStore b) rfl (vBuf b) (stB c (chunk b r)) _ _ (credit_st _ _) O 0 hO (Nat.le_refl 0)) $$ [Hc HO Hs]
  · isplitr; · iexact HR
    isplitl [Hc]; · iexact Hc
    isplitl [HO] <;> iassumption
  iintro ⟨HO, Hs, Hsr, Hpay⟩
  ihave Hpay := (show pay m c r 0 (.st b) ⊢ iprop(stP c (chunk b r) (outF m c) ∗ ∃ f, vP c b f) from Entails.of_eq rfl) $$ Hpay
  icases Hpay with ⟨Hd, Hv⟩
  iapply Hk
  isplitl [HO]; · iexact HO
  isplitl [Hl Hlr Hs Hsr Hv]
  · unfold Fr
    isplitl [Hv]; · iexact Hv
    isplitl [Hl]; · iexact Hl
    isplitl [Hlr]; · iexact Hlr
    isplitl [Hs] <;> iassumption
  iexact Hd

/-- Before chunk `k` its half is made free. -/
theorem run_free (k : Fin 16) (O : CellTallies nD τ sig Unit) (hO : Above 0 O) :
    iprop(recs m K ∗ ow c O ∗ St c (par k) (k.val / 2)) ⊢ WP c (opsFree (lay c) k) iprop(ow c O ∗ Fr c (par k) (k.val / 2) ∗ Gone m c k) := by
  have hk := k.isLt
  unfold opsFree Gone
  by_cases h : 2 ≤ k.val
  · rw [if_pos h, if_pos h]
    obtain ⟨r, hr⟩ : ∃ r, k.val / 2 = r + 1 := ⟨k.val / 2 - 1, by omega⟩
    rw [hr]
    iintro H
    iapply (wait_store m K c (par k) r (by omega) (before k) (chunk_before k r hr) O hO) $$ H
    iintro H
    iapply (wp_done c _)
    iexact H
  · rw [if_neg h, if_neg h]
    rw [show k.val / 2 = 0 by omega]
    unfold St Fr
    iintro ⟨#HR, HO, Hv, Hl, Hs⟩
    iapply (wp_done c _)
    isplitl [HO]; · iexact HO
    isplitl [Hv Hl Hs]
    · isplitl [Hv]; · iexact Hv
      isplitl [Hl]; · iexact Hl
      isplitr; · iapply (recs_reached m K c (.ld (par k))); iexact HR
      isplitl [Hs]; · iexact Hs
      iapply (recs_reached m K c (.st (par k))); iexact HR
    iempintro

/-- What the load of chunk `k` leaves. -/
theorem load_pay (b : Fin 2) (r : ℕ) (k : Fin 16) (hk : chunk b r = k) (f : Buf (Elt F) ((c : Thread nD τ).loc cc0_scratch0)) :
    iprop(((vBuf b).view.loc (c : Thread nD τ) ↦[(vBuf b).view.set]{fullShare}
        ((vBuf b).view.write (Elt F) f ((ldB c k).view.read (Elt F) (X m c)) Finset.univ))
      ∗ ((ldB c k).view.loc (c : Thread nD τ) ↦[(ldB c k).view.set]{fullShare.right} (X m c))) ⊢ (pay m c r 0 (.ld b) : sProp 𝕄) := by
  subst hk
  show _ ⊢ iprop((∃ f, ⌜(vBuf b).view.read (Elt F) f = (ldB c (chunk b r)).view.read (Elt F) (X m c)⌝ ∗ vP c b f) ∗ ldP m c (chunk b r))
  iintro ⟨Hv, Hx⟩
  isplitl [Hv]
  · iexists _
    isplitr; · ipureintro; exact View.read_write_univ (v := (vBuf b).view) f _
    unfold vP; iexact Hv
  unfold ldP; iexact Hx

/-- What the wait for the load of chunk `k` brings. -/
theorem load_got (b : Fin 2) (r : ℕ) (k : Fin 16) (hk : chunk b r = k) :
    (pay m c r 0 (.ld b) : sProp 𝕄)
      ⊢ iprop((∃ f, ⌜(vBuf b).view.read (Elt F) f = (ldB c k).view.read (Elt F) (X m c)⌝ ∗ vP c b f) ∗ ldP m c k) := by
  subst hk
  exact Entails.of_eq rfl

/-- What the store of chunk `k` leaves. -/
theorem store_pay (b : Fin 2) (r : ℕ) (k : Fin 16) (hk : chunk b r = k) (f : Buf (Elt F) ((c : Thread nD τ).loc cc0_scratch0))
    (hf : (vBuf b).view.read (Elt F) f = (ldB c k).view.read (Elt F) (X m c)) :
    iprop(((stB c k).view.loc (c : Thread nD τ) ↦[(stB c k).view.set]{fullShare}
        ((stB c k).view.write (Elt F) (out0 m c) ((vBuf b).view.read (Elt F) f) Finset.univ))
      ∗ ((vBuf b).view.loc (c : Thread nD τ) ↦[(vBuf b).view.set]{fullShare} f)) ⊢ (pay m c r 0 (.st b) : sProp 𝕄) := by
  subst hk
  show _ ⊢ iprop(stP c (chunk b r) (outF m c) ∗ ∃ f, vP c b f)
  iintro ⟨Hd, Hv⟩
  isplitl [Hd]
  · have h : iprop((stB c (chunk b r)).view.loc (c : Thread nD τ) ↦[(stB c (chunk b r)).view.set]{fullShare}
        ((stB c (chunk b r)).view.write (Elt F) (out0 m c) ((vBuf b).view.read (Elt F) f) Finset.univ)) ⊢ (stP c (chunk b r) (outF m c) : sProp 𝕄) :=
      Entails.of_eq (pointsTo_congr (ℓ := (c : Thread nD τ).loc main_v1) (I := (stB c (chunk b r)).view.set) (q := fullShare)
        (land_st m c (chunk b r) b (out0 m c) f hf))
    iapply h; iexact Hd
  iexists f; unfold vP; iexact Hv

/-- Chunk `k` of the own half is loaded, and its store started. -/
theorem run_local (k : Fin 16) (O : CellTallies nD τ sig Unit) (hO : Above 0 O) :
    iprop(recs m K ∗ ow c O ∗ Fr c (par k) (k.val / 2) ∗ ldP m c k ∗ stP c k (out0 m c) ∗ tok c (.ld (par k)) (k.val / 2) 0 ∗ tok c (.st (par k)) (k.val / 2) 0)
      ⊢ WP c (opsLocal (lay c) k) iprop(ow c O ∗ St c (par k) (k.val / 2 + 1) ∗ ldP m c k) := by
  have hr : k.val / 2 < 8 := by have := k.isLt; omega
  show _ ⊢ WP c [loadOp (ldB c k) (par k) (sLoad (par k)), waitLoadOp (sLoad (par k)) (ldB c k) (par k), storeOp (par k) (stB c k) (sStore (par k))] _
  unfold Fr
  iintro ⟨#HR, HO, ⟨⟨%f, Hv⟩, Hl, Hlr, Hs, Hsr⟩, Hx, Hd, Htl, Hts⟩
  iapply (step_copy m K c (.ld (par k)) (k.val / 2) hr (by intro h; cases h) (sLoad (par k)) rfl (ldB c k) (vBuf (par k)) _ _ _ (credit_vBuf _)
    fullShare.right (X m c) f (load_pay m c _ _ k (chunk_par k) f)) $$ [Hx Hv Htl Hlr]
  · isplitr; · iexact HR
    isplitl [Hx]; · unfold ldP; iexact Hx
    isplitl [Hv]; · unfold vP; iexact Hv
    isplitl [Htl] <;> iassumption
  iintro Hc
  iapply (step_wait m K c (.ld (par k)) (k.val / 2) hr (by intro h; cases h) (sLoad (par k)) rfl (ldB c k) (vBuf (par k)) _ _ (credit_vBuf _) O 0 hO (Nat.le_refl 0))
    $$ [Hc HO Hl]
  · isplitr; · iexact HR
    isplitl [Hc]; · iexact Hc
    isplitl [HO] <;> iassumption
  iintro ⟨HO, Hl, Hlr, Hpay⟩
  ihave Hpay := (load_got m c (par k) (k.val / 2) k (chunk_par k)) $$ Hpay
  icases Hpay with ⟨⟨%g, %hg, Hv⟩, Hx⟩
  iapply (step_copy m K c (.st (par k)) (k.val / 2) hr (by intro h; cases h) (sStore (par k)) rfl (vBuf (par k)) (stB c k) _ _ _ (credit_st _ _)
    fullShare g (out0 m c) (store_pay m c _ _ k (chunk_par k) g hg)) $$ [Hv Hd Hts Hsr]
  · isplitr; · iexact HR
    isplitl [Hv]; · unfold vP; iexact Hv
    isplitl [Hd]; · unfold stP; iexact Hd
    isplitl [Hts] <;> iassumption
  iintro Hc
  iapply (wp_done c _)
  isplitl [HO]; · iexact HO
  isplitr [Hx]
  · unfold St
    isplitl [Hc]; · iexact Hc
    isplitl [Hl]; · iexact Hl
    isplitl [Hlr] <;> iassumption
  iexact Hx

end

end Cert.A2A
-- ==== Proof.Fwd.lean ====
/-
The kernel on one device, phase by phase, continued: what arrives and what is passed on.
-/
module

public import proofs.«01_k».proof.Proof.Body

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- A block held whole is held in two half shares. -/
theorem rg_halves (c e : Dev nD) (k : Fin 16) (f : Buf (Elt F) ((c : Thread nD τ).loc main_v1)) :
    (rg c e k fullShare f : sProp 𝕄) ⊣⊢ iprop(rg c e k fullShare.left f ∗ rg c e k fullShare.right f) :=
  pointsTo_share (PosShare.mem_left_op_right fullShare)

/-! ## The quarter that came over y -/

/-- What forwarding chunk `k` takes: its arrival, the duties of the two sends and of their arrivals, and the blocks they fill; -/
def fwdIn (k : Fin 16) : sProp 𝕄 :=
  iprop(crd c (.yr k) ∗ pos c (.yr k) 0 ∗ (tok c (.xs k) 0 0 ∗ tok (xp c) (.xr k) 0 0 ∗ rg (xp c) c k fullShare (out0 m (xp c)))
    ∗ (tok c (.zs k) 0 0 ∗ tok (zp c) (.zr k) 0 0 ∗ rg (zp c) c k fullShare (out0 m (zp c))))
/-- and what it leaves. -/
def fwdOut (k : Fin 16) : sProp 𝕄 := iprop(pos c (.yr k) 1 ∗ crd c (.xs k) ∗ crd c (.zs k))

/-- Chunk `k` arrives over y and leaves over x and over z, each copy reading it under half of the share. -/
theorem run_fwd (k : Fin 16) (O : CellTallies nD τ sig Unit)
    (hO : Above 2 ((O + tallyAt (cell (zp c) (.zr k)) () N) + tallyAt (cell (xp c) (.xr k)) () N)) :
    iprop(recs m K ∗ ow c ((O + tallyAt (cell (zp c) (.zr k)) () N) + tallyAt (cell (xp c) (.xr k)) () N) ∗ fwdIn m c k)
      ⊢ WP c (opsFwd (lay c) k) iprop(ow c O ∗ fwdOut c k) := by
  show _ ⊢ WP c [waitOp (sem16 cc0_scratch2 k) (rb c k) (rb c k), sendOp (xp c) (rb c k) (rb c k) (sem16 cc0_scratch3 k) (sem16 cc0_scratch4 k),
    sendOp (zp c) (rb c k) (rb c k) (sem16 cc0_scratch5 k) (sem16 cc0_scratch6 k)] _
  unfold fwdIn fwdOut
  iintro ⟨#HR, HO, Hc, Hp, ⟨Hxs, Hxr, Hx⟩, Hzs, Hzr, Hz⟩
  iapply (wait_chunk m K c (.yr k) rfl (by intro h; cases h) rfl _ rfl (rb c k) (rb c k) (credit_rb _ _) _ 2 hO (Nat.le_refl 2)) $$ [Hc HO Hp]
  · isplitr; · iexact HR
    isplitl [Hc]; · iexact Hc
    isplitl [HO] <;> iassumption
  iintro ⟨HO, Hp, Hg⟩
  ihave Hg := (show pay m c 0 0 (.yr k) ⊢ iprop(rg c c k fullShare.left (outF m c) ∗ rg c c k fullShare.right (outF m c)) from (rg_halves c c k _).1) $$ Hg
  icases Hg with ⟨Hgl, Hgr⟩
  iapply (send_f m K c (xp c) c (yc_xp c) rfl k fullShare.left (.xs k) (.xr k) rfl rfl (by intro h; cases h) (by intro h; cases h) _ _ rfl rfl rfl rfl rfl
    (by show rg (xp c) (xp (xp c)) k _ _ = _; rw [xp_xp]) (O + tallyAt (cell (zp c) (.zr k)) () N)) $$ [Hgl Hx HO Hxs Hxr]
  · isplitr; · iexact HR
    isplitl [Hgl]; · iexact Hgl
    isplitl [Hx]; · iexact Hx
    isplitl [HO]; · iexact HO
    isplitl [Hxs] <;> iassumption
  iintro ⟨Hcx, HO⟩
  iapply (send_f m K c (zp c) c (yc_zp c) rfl k fullShare.right (.zs k) (.zr k) rfl rfl (by intro h; cases h) (by intro h; cases h) _ _ rfl rfl rfl rfl rfl
    (by show rg (zp c) (zp (zp c)) k _ _ = _; rw [zp_zp]) O) $$ [Hgr Hz HO Hzs Hzr]
  · isplitr; · iexact HR
    isplitl [Hgr]; · iexact Hgr
    isplitl [Hz]; · iexact Hz
    isplitl [HO]; · iexact HO
    isplitl [Hzs] <;> iassumption
  iintro ⟨Hcz, HO⟩
  iapply (wp_done c _)
  isplitl [HO]; · iexact HO
  isplitl [Hp]; · iexact Hp
  isplitl [Hcx] <;> iassumption

/-! ## The middle loop: the own half and the forwarding, chunk by chunk -/

/-- The state of the middle loop after `n` chunks. -/
def midT (n : ℕ) : sProp 𝕄 := iprop(ow c (owM c n) ∗ St c 0 ((n + 1) / 2) ∗ St c 1 (n / 2))
/-- What chunk `k` takes for its way through the staging buffer. -/
def locIn (k : Fin 16) : sProp 𝕄 :=
  iprop(ldP m c k ∗ stP c k (out0 m c) ∗ tok c (.ld (par k)) (k.val / 2) 0 ∗ tok c (.st (par k)) (k.val / 2) 0)

/-- The whole step of chunk `k` on its own staging half. -/
theorem run_mid_half (k : Fin 16) :
    iprop(recs m K ∗ ow c (owM c k.val) ∗ St c (par k) (k.val / 2) ∗ locIn m c k ∗ fwdIn m c k)
      ⊢ WP c (opsMid (lay c) k) iprop(ow c (owM c (k.val + 1)) ∗ St c (par k) (k.val / 2 + 1) ∗ Gone m c k ∗ ldP m c k ∗ fwdOut c k) := by
  have hO : Above 0 (owM c k.val) := (owM_above c k.val).weaken (by decide)
  have hO2 : Above 2 ((owM c (k.val + 1) + tallyAt (cell (zp c) (.zr k)) () N) + tallyAt (cell (xp c) (.xr k)) () N) := owM_step c k ▸ owM_above c k.val
  refine wp_step m K c (run_free m K c k (owM c k.val) hO) (R := iprop(locIn m c k ∗ fwdIn m c k)) ?_ ?_
  · iintro ⟨HO, HS, H⟩
    isplitr [H]
    · isplitl [HO] <;> iassumption
    iexact H
  refine wp_step m K c (run_local m K c k (owM c k.val) hO) (R := iprop(Gone m c k ∗ fwdIn m c k)) ?_ ?_
  · unfold locIn
    iintro ⟨⟨HO, HS, HG⟩, HL, HF⟩
    isplitr [HG HF]
    · isplitl [HO]; · iexact HO
      isplitl [HS] <;> iassumption
    isplitl [HG] <;> iassumption
  rw [owM_step c k]
  refine wp_last m K c (run_fwd m K c k (owM c (k.val + 1)) hO2) (R := iprop(Gone m c k ∗ St c (par k) (k.val / 2 + 1) ∗ ldP m c k)) ?_ ?_
  · iintro ⟨⟨HO, HS, HL⟩, HG, HF⟩
    isplitl [HO HF]
    · isplitl [HO] <;> iassumption
    isplitl [HG]; · iexact HG
    isplitl [HS] <;> iassumption
  · iintro ⟨⟨HO, HF⟩, HG, HS, HL⟩
    isplitl [HO]; · iexact HO
    isplitl [HS]; · iexact HS
    isplitl [HG]; · iexact HG
    isplitl [HL] <;> iassumption

/-- What chunk `k` leaves in the middle loop. -/
def midOut (k : Fin 16) : sProp 𝕄 := iprop(Gone m c k ∗ ldP m c k ∗ fwdOut c k)

/-- The step of the middle loop. -/
theorem run_mid (k : Fin 16) :
    iprop(recs m K ∗ midT c k.val ∗ locIn m c k ∗ fwdIn m c k) ⊢ WP c (opsMid (lay c) k) iprop(midT c (k.val + 1) ∗ midOut m c k) := by
  unfold midT midOut
  rcases Nat.mod_two_eq_zero_or_one k.val with h | h
  · have hp : par k = 0 := Fin.ext h
    have hm := run_mid_half m K c k
    rw [hp] at hm
    rw [show (k.val + 1) / 2 = k.val / 2 by omega, show (k.val + 1 + 1) / 2 = k.val / 2 + 1 by omega]
    refine wp_last m K c hm (R := St c 1 (k.val / 2)) ?_ ?_
    · iintro ⟨⟨HO, HS, HS'⟩, H⟩
      isplitr [HS']
      · isplitl [HO]; · iexact HO
        isplitl [HS] <;> iassumption
      iexact HS'
    · iintro ⟨⟨HO, HS, H⟩, HS'⟩
      isplitr [H]
      · isplitl [HO]; · iexact HO
        isplitl [HS] <;> iassumption
      iexact H
  · have hp : par k = 1 := Fin.ext h
    have hm := run_mid_half m K c k
    rw [hp] at hm
    rw [show (k.val + 1) / 2 = k.val / 2 + 1 by omega, show (k.val + 1 + 1) / 2 = k.val / 2 + 1 by omega]
    refine wp_last m K c hm (R := St c 0 (k.val / 2 + 1)) ?_ ?_
    · iintro ⟨⟨HO, HS', HS⟩, H⟩
      isplitr [HS']
      · isplitl [HO]; · iexact HO
        isplitl [HS] <;> iassumption
      iexact HS'
    · iintro ⟨⟨HO, HS, H⟩, HS'⟩
      isplitr [H]
      · isplitl [HO]; · iexact HO
        isplitl [HS'] <;> iassumption
      iexact H

/-! ## The second hop -/

/-- What the second-hop step of chunk `k` takes: the arrivals over x and z, the duties of the send, the block it fills; -/
def twiceIn (k : Fin 16) : sProp 𝕄 :=
  iprop((crd c (.xr k) ∗ pos c (.xr k) 0) ∗ (crd c (.zr k) ∗ pos c (.zr k) 0)
    ∗ tok c (.ts k) 0 0 ∗ tok (tp k c) (.tr k) 0 0 ∗ rg (tp k c) (fp k c) k fullShare (out0 m (tp k c)))
/-- and what it leaves: of the two chunks that arrived, the one it does not pass on. -/
def twiceOut (k : Fin 16) : sProp 𝕄 :=
  iprop(pos c (.xr k) 1 ∗ pos c (.zr k) 1 ∗ crd c (.ts k) ∗ rg c (tp k c) k fullShare (outF m c))

/-- A chunk that arrived is waited for. -/
theorem got_xr {l : List (Op F)} {Q : sProp 𝕄} (k : Fin 16) (O : CellTallies nD τ sig Unit) (hO : Above 3 O) :
    iprop(recs m K ∗ ow c O ∗ crd c (.xr k) ∗ pos c (.xr k) 0)
      ⊢ iprop(((ow c O ∗ pos c (.xr k) 1 ∗ rg c (xp c) k fullShare (outF m c)) -∗ WP c l Q)
          -∗ WP c (waitOp (sem16 cc0_scratch4 k) (rb (xp c) k) (rb (xp c) k) :: l) Q) := by
  iintro ⟨HR, HO, Hc, Hp⟩
  iapply (wait_chunk m K c (.xr k) rfl (by intro h; cases h) rfl _ rfl (rb (xp c) k) (rb (xp c) k) (credit_rb _ _) _ 3 hO (Nat.le_refl 3))
  isplitl [HR]; · iexact HR
  isplitl [Hc]; · iexact Hc
  isplitl [HO] <;> iassumption
/-- A chunk forwarded over z has arrived. -/
theorem got_zr {l : List (Op F)} {Q : sProp 𝕄} (k : Fin 16) (O : CellTallies nD τ sig Unit) (hO : Above 3 O) :
    iprop(recs m K ∗ ow c O ∗ crd c (.zr k) ∗ pos c (.zr k) 0)
      ⊢ iprop(((ow c O ∗ pos c (.zr k) 1 ∗ rg c (zp c) k fullShare (outF m c)) -∗ WP c l Q)
          -∗ WP c (waitOp (sem16 cc0_scratch6 k) (rb (zp c) k) (rb (zp c) k) :: l) Q) := by
  iintro ⟨HR, HO, Hc, Hp⟩
  iapply (wait_chunk m K c (.zr k) rfl (by intro h; cases h) rfl _ rfl (rb (zp c) k) (rb (zp c) k) (credit_rb _ _) _ 3 hO (Nat.le_refl 3))
  isplitl [HR]; · iexact HR
  isplitl [Hc]; · iexact Hc
  isplitl [HO] <;> iassumption

/-- A chunk is passed on over the second hop. -/
theorem pass {l : List (Op F)} {Q : sProp 𝕄} (k : Fin 16) (t e : Dev nD) (ht : tp k c = t) (he : fp k c = e) (ss rs : DmaSem sig)
    (hs : (Kd.ts k).loc = .dma ss) (hr : (Kd.tr k).loc = .dma rs) (O : CellTallies nD τ sig Unit) :
    iprop(recs m K ∗ rg c e k fullShare (outF m c) ∗ rg t e k fullShare (out0 m t) ∗ ow c (O + tallyAt (cell t (.tr k)) () N)
        ∗ tok c (.ts k) 0 0 ∗ tok t (.tr k) 0 0)
      ⊢ iprop(((crd c (.ts k) ∗ ow c O) -∗ WP c l Q) -∗ WP c (sendOp t (rb e k) (rb e k) ss rs :: l) Q) := by
  subst ht
  subst he
  exact send_f m K c (tp k c) (fp k c) (yc_tp k c) (yc_fp k c) k fullShare (.ts k) (.tr k) rfl rfl (by intro h; cases h) (by intro h; cases h) ss rs hs hr
    rfl rfl rfl (by show rg (tp k c) (xp (zp (tp k c))) k _ _ = _; rw [xpzp_tp]) O

/-- One step of the third loop: both chunks arrive, and one of them, by the parity of `k`, is passed on. -/
theorem run_twice (k : Fin 16) :
    iprop(recs m K ∗ ow c (owT c k.val) ∗ twiceIn m c k) ⊢ WP c (opsTwice (lay c) k) iprop(ow c (owT c (k.val + 1)) ∗ twiceOut m c k) := by
  have hO := owT_above c k.val
  have hO' := owT_above c (k.val + 1)
  rw [owT_step] at hO ⊢
  unfold opsTwice twiceIn twiceOut
  by_cases h : k.val % 2 = 0
  · have ht : tp k c = zp c := if_pos h
    have he : fp k c = xp c := if_pos h
    rw [if_pos h, ht, he]
    rw [ht] at hO
    iintro ⟨#HR, HO, ⟨Hcx, Hpx⟩, ⟨Hcz, Hpz⟩, Ht, Ht', Hd⟩
    iapply (got_xr m K c k _ hO) $$ [HO Hcx Hpx]
    · isplitr; · iexact HR
      isplitl [HO]; · iexact HO
      isplitl [Hcx] <;> iassumption
    iintro ⟨HO, Hpx, Hx⟩
    iapply (pass m K c k (zp c) (xp c) ht he (sem8 cc0_scratch9 (half k)) (sem8 cc0_scratch10 (half k)) (congrArg SemLoc.dma (if_pos h)) (congrArg SemLoc.dma (if_pos h))
      (owT c (k.val + 1))) $$ [HO Hx Hd Ht Ht']
    · isplitr; · iexact HR
      isplitl [Hx]; · iexact Hx
      isplitl [Hd]; · iexact Hd
      isplitl [HO]; · iexact HO
      isplitl [Ht] <;> iassumption
    iintro ⟨Hc, HO⟩
    iapply (got_zr m K c k _ hO') $$ [HO Hcz Hpz]
    · isplitr; · iexact HR
      isplitl [HO]; · iexact HO
      isplitl [Hcz] <;> iassumption
    iintro ⟨HO, Hpz, Hz⟩
    iapply (wp_done c _)
    isplitl [HO]; · iexact HO
    isplitl [Hpx]; · iexact Hpx
    isplitl [Hpz]; · iexact Hpz
    isplitl [Hc] <;> iassumption
  · have ht : tp k c = xp c := if_neg h
    have he : fp k c = zp c := if_neg h
    rw [if_neg h, ht, he]
    rw [ht] at hO
    iintro ⟨#HR, HO, ⟨Hcx, Hpx⟩, ⟨Hcz, Hpz⟩, Ht, Ht', Hd⟩
    iapply (got_xr m K c k _ hO) $$ [HO Hcx Hpx]
    · isplitr; · iexact HR
      isplitl [HO]; · iexact HO
      isplitl [Hcx] <;> iassumption
    iintro ⟨HO, Hpx, Hx⟩
    iapply (got_zr m K c k _ hO) $$ [HO Hcz Hpz]
    · isplitr; · iexact HR
      isplitl [HO]; · iexact HO
      isplitl [Hcz] <;> iassumption
    iintro ⟨HO, Hpz, Hz⟩
    iapply (pass m K c k (xp c) (zp c) ht he (sem8 cc0_scratch7 (half k)) (sem8 cc0_scratch8 (half k)) (congrArg SemLoc.dma (if_neg h)) (congrArg SemLoc.dma (if_neg h))
      (owT c (k.val + 1))) $$ [HO Hz Hd Ht Ht']
    · isplitr; · iexact HR
      isplitl [Hz]; · iexact Hz
      isplitl [Hd]; · iexact Hd
      isplitl [HO]; · iexact HO
      isplitl [Ht] <;> iassumption
    iintro ⟨Hc, HO⟩
    iapply (wp_done c _)
    isplitl [HO]; · iexact HO
    isplitl [Hpx]; · iexact Hpx
    isplitl [Hpz]; · iexact Hpz
    isplitl [Hc] <;> iassumption

/-! ## The last arrivals, and the sends that have left -/

/-- A wait on a chunk's semaphore when nothing is owed any more, alone in its step. -/
theorem run_wait (κ : Kd) (hr : rounds κ = 1) (hκ : κ ≠ .bar) (ha : amt κ = N) (s : DmaSem sig) (hs : κ.loc = .dma s)
    (src dst : Memref sig .tc .hbm S256x1024 .f32) (hn : dst.view.dmaCredit = N) :
    iprop(recs m K ∗ ow c 0 ∗ crd c κ ∗ pos c κ 0) ⊢ WP c [waitOp s src dst] iprop(ow c 0 ∗ pos c κ 1 ∗ pay m c 0 0 κ) := by
  iintro ⟨HR, HO, Hc, Hp⟩
  iapply (wait_chunk m K c κ hr hκ ha s hs src dst hn 0 (level κ) (Above.zero _) (Nat.le_refl _)) $$ [HR HO Hc Hp]
  · isplitl [HR]; · iexact HR
    isplitl [Hc]; · iexact Hc
    isplitl [HO] <;> iassumption
  iintro H
  iapply (wp_done c _)
  iexact H

/-- A chunk has arrived over two hops. -/
theorem run_last (k : Fin 16) : iprop(recs m K ∗ ow c 0 ∗ crd c (.tr k) ∗ pos c (.tr k) 0)
    ⊢ WP c (opsLast (lay c) k) iprop(ow c 0 ∗ pos c (.tr k) 1 ∗ rg c (xp (zp c)) k fullShare (outF m c)) := by
  unfold opsLast
  split
  · next h => exact run_wait m K c (.tr k) rfl (by intro h; cases h) rfl _ (congrArg SemLoc.dma (if_pos h)) _ _ (credit_rb _ _)
  · next h => exact run_wait m K c (.tr k) rfl (by intro h; cases h) rfl _ (congrArg SemLoc.dma (if_neg h)) _ _ (credit_rb _ _)

/-- The send of chunk `k` over y has left, and its source is back. -/
theorem run_leftY (k : Fin 16) : iprop(recs m K ∗ ow c 0 ∗ crd c (.ys k) ∗ pos c (.ys k) 0)
    ⊢ WP c (opsLeftY (lay c) k) iprop(ow c 0 ∗ pos c (.ys k) 1 ∗ srcP m c k) :=
  run_wait m K c (.ys k) rfl (by intro h; cases h) rfl _ rfl _ _ (credit_src _ _)

/-- The two forwarding sends of chunk `k` have left, and the two half shares of it are one again. -/
theorem run_leftF (k : Fin 16) : iprop(recs m K ∗ ow c 0 ∗ (crd c (.xs k) ∗ pos c (.xs k) 0) ∗ crd c (.zs k) ∗ pos c (.zs k) 0)
    ⊢ WP c (opsLeftF (lay c) k) iprop(ow c 0 ∗ pos c (.xs k) 1 ∗ pos c (.zs k) 1 ∗ rg c c k fullShare (outF m c)) := by
  refine wp_step m K c (l₁ := [waitOp (sem16 cc0_scratch3 k) (rb c k) (rb c k)]) (l₂ := [waitOp (sem16 cc0_scratch5 k) (rb c k) (rb c k)])
    (run_wait m K c (.xs k) rfl (by intro h; cases h) rfl _ rfl _ _ (credit_rb _ _)) (R := iprop(crd c (.zs k) ∗ pos c (.zs k) 0)) ?_ ?_
  · iintro ⟨HO, ⟨Hc, Hp⟩, H⟩
    isplitr [H]
    · isplitl [HO]; · iexact HO
      isplitl [Hc] <;> iassumption
    iexact H
  refine wp_last m K c (run_wait m K c (.zs k) rfl (by intro h; cases h) rfl _ rfl _ _ (credit_rb _ _)) (R := iprop(pos c (.xs k) 1 ∗ pay m c 0 0 (.xs k))) ?_ ?_
  · iintro ⟨⟨HO, HP⟩, H⟩
    isplitr [HP]
    · isplitl [HO] <;> iassumption
    iexact HP
  · iintro ⟨⟨HO, Hp, Hr⟩, Hp', Hl⟩
    isplitl [HO]; · iexact HO
    isplitl [Hp']; · iexact Hp'
    isplitl [Hp]; · iexact Hp
    iapply (rg_halves c c k (outF m c)).2
    isplitl [Hl]
    · ihave Hl := (show pay m c 0 0 (.xs k) ⊢ rg c c k fullShare.left (outF m c) from Entails.of_eq rfl) $$ Hl
      iexact Hl
    · ihave Hr := (show pay m c 0 0 (.zs k) ⊢ rg c c k fullShare.right (outF m c) from Entails.of_eq rfl) $$ Hr
      iexact Hr

/-- The send of chunk `k` on the second hop has left, and its source is back. -/
theorem run_leftT (k : Fin 16) : iprop(recs m K ∗ ow c 0 ∗ crd c (.ts k) ∗ pos c (.ts k) 0)
    ⊢ WP c (opsLeftT (lay c) k) iprop(ow c 0 ∗ pos c (.ts k) 1 ∗ rg c (fp k c) k fullShare (outF m c)) := by
  unfold opsLeftT
  split
  · next h => exact run_wait m K c (.ts k) rfl (by intro h; cases h) rfl _ (congrArg SemLoc.dma (if_pos h)) _ _ (credit_rb _ _)
  · next h => exact run_wait m K c (.ts k) rfl (by intro h; cases h) rfl _ (congrArg SemLoc.dma (if_neg h)) _ _ (credit_rb _ _)

/-- The last two stores are waited for. -/
theorem run_end : iprop(recs m K ∗ ow c 0 ∗ St c 0 8 ∗ St c 1 8)
    ⊢ WP c (opsEnd (lay c)) iprop(ow c 0 ∗ (Fr c 0 8 ∗ stP c 14 (outF m c)) ∗ Fr c 1 8 ∗ stP c 15 (outF m c)) := by
  show _ ⊢ WP c [waitStoreOp (sStore 0) 0 (stB c 14), waitStoreOp (sStore 1) 1 (stB c 15)] _
  iintro ⟨#HR, HO, H0, H1⟩
  iapply (wait_store m K c 0 7 (by decide) 14 (by decide) 0 (Above.zero _)) $$ [HO H0]
  · isplitr; · iexact HR
    isplitl [HO] <;> iassumption
  iintro ⟨HO, H0⟩
  iapply (wait_store m K c 1 7 (by decide) 15 (by decide) 0 (Above.zero _)) $$ [HO H1]
  · isplitr; · iexact HR
    isplitl [HO] <;> iassumption
  iintro ⟨HO, H1⟩
  iapply (wp_done c _)
  isplitl [HO]; · iexact HO
  isplitl [H0] <;> iassumption

end Cert.A2A
-- ==== Proof.Whole.lean ====
/-
The kernel on one device, from its first operation to its last: what the device starts with is dealt to the phases, and
what they leave is put together again.
-/
module

public import proofs.«01_k».proof.Proof.Fwd
public import Idealize.ShloMosaic.Lib.Pipeline.BigSepL

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-! ## All semaphores, purpose by purpose -/

/-- The eight purposes that exist for each chunk. -/
def fam : Fin 8 → Fin 16 → Kd
  | 0 => .ys | 1 => .yr | 2 => .xs | 3 => .xr | 4 => .zs | 5 => .zr | 6 => .ts | 7 => .tr

/-- All purposes: those of the chunks, those of the staging halves, the barrier and the unused one. -/
abbrev KI : Type := (Fin 8 × Fin 16) ⊕ (Fin 2 ⊕ Fin 2) ⊕ Fin 2
/-- The purpose of a number, -/
def ofKI : KI → Kd
  | .inl (a, k) => fam a k
  | .inr (.inl (.inl b)) => .ld b
  | .inr (.inl (.inr b)) => .st b
  | .inr (.inr i) => if i = 0 then .bar else .no
/-- and the number of a purpose. -/
def toKI : Kd → KI
  | .ys k => .inl (0, k) | .yr k => .inl (1, k) | .xs k => .inl (2, k) | .xr k => .inl (3, k) | .zs k => .inl (4, k) | .zr k => .inl (5, k)
  | .ts k => .inl (6, k) | .tr k => .inl (7, k) | .ld b => .inr (.inl (.inl b)) | .st b => .inr (.inl (.inr b))
  | .bar => .inr (.inr 0) | .no => .inr (.inr 1)
/-- They undo each other -/
theorem ofKI_toKI (κ : Kd) : ofKI (toKI κ) = κ := by cases κ <;> rfl
/-- both ways. -/
theorem toKI_ofKI : ∀ x : KI, toKI (ofKI x) = x := by
  rintro (⟨a, k⟩ | (b | b) | i)
  · fin_cases a <;> rfl
  · rfl
  · rfl
  · fin_cases i <;> rfl

/-- The semaphores, by their purposes. -/
def semEquiv : KI ≃ SemLoc sig where
  toFun x := (ofKI x).loc
  invFun s := toKI (kd s)
  left_inv x := by show toKI (kd (ofKI x).loc) = x; rw [kd_loc, toKI_ofKI]
  right_inv s := by show (ofKI (toKI (kd s))).loc = s; rw [ofKI_toKI, loc_kd]

/-- Something for every semaphore is something for each purpose. -/
theorem sems_split (Φ : SemLoc sig → sProp 𝕄) :
    bigSep Finset.univ Φ
      = iprop(((bigSep Finset.univ fun k => Φ (Kd.ys k).loc) ∗ (bigSep Finset.univ fun k => Φ (Kd.yr k).loc)
          ∗ (bigSep Finset.univ fun k => Φ (Kd.xs k).loc) ∗ (bigSep Finset.univ fun k => Φ (Kd.xr k).loc)
          ∗ (bigSep Finset.univ fun k => Φ (Kd.zs k).loc) ∗ (bigSep Finset.univ fun k => Φ (Kd.zr k).loc)
          ∗ (bigSep Finset.univ fun k => Φ (Kd.ts k).loc) ∗ (bigSep Finset.univ fun k => Φ (Kd.tr k).loc))
          ∗ ((Φ (Kd.ld 0).loc ∗ Φ (Kd.ld 1).loc) ∗ (Φ (Kd.st 0).loc ∗ Φ (Kd.st 1).loc))
          ∗ (Φ Kd.bar.loc ∗ Φ Kd.no.loc)) := by
  have h8 (Ψ : Fin 8 → sProp 𝕄) : bigSep Finset.univ Ψ = iprop(Ψ 0 ∗ Ψ 1 ∗ Ψ 2 ∗ Ψ 3 ∗ Ψ 4 ∗ Ψ 5 ∗ Ψ 6 ∗ Ψ 7) :=
    bigSep_univ_eq_bigSepL [0, 1, 2, 3, 4, 5, 6, 7] (by decide) (by decide) Ψ
  have h2 (Ψ : Fin 2 → sProp 𝕄) : bigSep Finset.univ Ψ = iprop(Ψ 0 ∗ Ψ 1) := bigSep_univ_eq_bigSepL [0, 1] (by decide) (by decide) Ψ
  rw [bigSep_univ_equiv semEquiv Φ, bigSep_univ_sum, bigSep_univ_sum, bigSep_univ_sum, bigSep_univ_prod, h8, h2, h2, h2]
  rfl

/-- The positions of device `c` at all its semaphores. -/
def posAll (r : Kd → ℕ) : sProp 𝕄 := bigSep Finset.univ fun s : SemLoc sig => atPos ER ((c : Thread nD τ), s) (r (kd s)) ∅ 0

/-- The positions of a device, purpose by purpose; -/
theorem posAll_eq (r : Kd → ℕ) :
    (posAll c r : sProp 𝕄)
      = iprop(((bigSep Finset.univ fun k => pos c (.ys k) (r (.ys k))) ∗ (bigSep Finset.univ fun k => pos c (.yr k) (r (.yr k)))
          ∗ (bigSep Finset.univ fun k => pos c (.xs k) (r (.xs k))) ∗ (bigSep Finset.univ fun k => pos c (.xr k) (r (.xr k)))
          ∗ (bigSep Finset.univ fun k => pos c (.zs k) (r (.zs k))) ∗ (bigSep Finset.univ fun k => pos c (.zr k) (r (.zr k)))
          ∗ (bigSep Finset.univ fun k => pos c (.ts k) (r (.ts k))) ∗ (bigSep Finset.univ fun k => pos c (.tr k) (r (.tr k))))
          ∗ ((pos c (.ld 0) (r (.ld 0)) ∗ pos c (.ld 1) (r (.ld 1))) ∗ (pos c (.st 0) (r (.st 0)) ∗ pos c (.st 1) (r (.st 1))))
          ∗ (pos c .bar (r .bar) ∗ pos c .no (r .no))) := by
  unfold posAll
  rw [sems_split]
  simp only [kd_loc]

/-- at the start, -/
theorem posAll_start :
    (posAll c (fun _ => 0) : sProp 𝕄)
      = iprop(((bigSep Finset.univ fun k => pos c (.ys k) 0) ∗ (bigSep Finset.univ fun k => pos c (.yr k) 0)
          ∗ (bigSep Finset.univ fun k => pos c (.xs k) 0) ∗ (bigSep Finset.univ fun k => pos c (.xr k) 0)
          ∗ (bigSep Finset.univ fun k => pos c (.zs k) 0) ∗ (bigSep Finset.univ fun k => pos c (.zr k) 0)
          ∗ (bigSep Finset.univ fun k => pos c (.ts k) 0) ∗ (bigSep Finset.univ fun k => pos c (.tr k) 0))
          ∗ ((pos c (.ld 0) 0 ∗ pos c (.ld 1) 0) ∗ (pos c (.st 0) 0 ∗ pos c (.st 1) 0))
          ∗ (pos c .bar 0 ∗ pos c .no 0)) := posAll_eq c _
/-- and at the end. -/
theorem posAll_end :
    (posAll c rounds : sProp 𝕄)
      = iprop(((bigSep Finset.univ fun k => pos c (.ys k) 1) ∗ (bigSep Finset.univ fun k => pos c (.yr k) 1)
          ∗ (bigSep Finset.univ fun k => pos c (.xs k) 1) ∗ (bigSep Finset.univ fun k => pos c (.xr k) 1)
          ∗ (bigSep Finset.univ fun k => pos c (.zs k) 1) ∗ (bigSep Finset.univ fun k => pos c (.zr k) 1)
          ∗ (bigSep Finset.univ fun k => pos c (.ts k) 1) ∗ (bigSep Finset.univ fun k => pos c (.tr k) 1))
          ∗ ((pos c (.ld 0) 8 ∗ pos c (.ld 1) 8) ∗ (pos c (.st 0) 8 ∗ pos c (.st 1) 8))
          ∗ (pos c .bar 1 ∗ pos c .no 0)) := posAll_eq c rounds

/-! ## The loops -/

/-- What a list of operations leaves is there for the next. -/
theorem wp_then {l₁ l₂ : List (Op F)} {P Q Z : sProp 𝕄} (h : iprop(recs m K ∗ P) ⊢ WP c l₁ Q) :
    iprop(recs m K ∗ P) ⊢ iprop((Q -∗ WP c l₂ Z) -∗ WP c (l₁ ++ l₂) Z) := by
  iintro ⟨HR, HP⟩ Hk
  have h₂ : iprop(recs m K ∗ Q ∗ (Q -∗ WP c l₂ Z)) ⊢ WP c l₂ Z := by
    iintro ⟨-, HQ, Hk⟩
    iapply Hk
    iexact HQ
  iapply (wp_step m K c h (R := iprop(Q -∗ WP c l₂ Z)) .rfl h₂)
  isplitl [HR]; · iexact HR
  isplitl [HP] <;> iassumption

/-- The first loop: all chunks leave over y. -/
theorem loop_send :
    iprop(recs m K ∗ ow c (owM c 0 + owY c 0) ∗ (bigSep Finset.univ fun k => srcP m c k)
        ∗ (bigSep Finset.univ fun k => rg (yp c) (yp c) k fullShare (out0 m (yp c)))
        ∗ (bigSep Finset.univ fun k => tok c (.ys k) 0 0) ∗ bigSep Finset.univ fun k => tok (yp c) (.yr k) 0 0)
      ⊢ WP c (all16.flatMap (opsSend (lay c))) iprop(ow c (owM c 0) ∗ bigSep Finset.univ fun k => crd c (.ys k)) := by
  have h := wp_loop m K c (opsSend (lay c)) (fun n => ow c (owM c 0 + owY c n)) _ (fun k => crd c (.ys k)) (fun k => run_send m K c k (owM c 0))
  simp only [bigSep_sep', owY_end, add_zero] at h
  exact h

/-- The second loop: the own half is copied, and what comes over y is forwarded. -/
theorem loop_mid :
    iprop(recs m K ∗ midT c 0 ∗ (bigSep Finset.univ fun k => locIn m c k) ∗ bigSep Finset.univ fun k => fwdIn m c k)
      ⊢ WP c (all16.flatMap (opsMid (lay c))) iprop(midT c 16 ∗ bigSep Finset.univ fun k => midOut m c k) := by
  rw [← bigSep_sep']
  refine wp_loop m K c (opsMid (lay c)) (fun n => midT c n) (fun k => iprop(locIn m c k ∗ fwdIn m c k)) (fun k => midOut m c k) (fun k => ?_)
  exact run_mid m K c k

/-- The third loop: what was forwarded arrives, and half of it is passed on. -/
theorem loop_twice :
    iprop(recs m K ∗ ow c (owT c 0) ∗ bigSep Finset.univ fun k => twiceIn m c k)
      ⊢ WP c (all16.flatMap (opsTwice (lay c))) iprop(ow c 0 ∗ bigSep Finset.univ fun k => twiceOut m c k) := by
  have h := wp_loop m K c (opsTwice (lay c)) (fun n => ow c (owT c n)) _ _ (run_twice m K c)
  simp only [owT_end] at h
  exact h

/-- The fourth loop: the last quarter arrives. -/
theorem loop_last :
    iprop(recs m K ∗ ow c 0 ∗ (bigSep Finset.univ fun k => crd c (.tr k)) ∗ bigSep Finset.univ fun k => pos c (.tr k) 0)
      ⊢ WP c (all16.flatMap (opsLast (lay c))) iprop(ow c 0 ∗ (bigSep Finset.univ fun k => pos c (.tr k) 1)
          ∗ bigSep Finset.univ fun k => rg c (xp (zp c)) k fullShare (outF m c)) := by
  have h := wp_loop m K c (opsLast (lay c)) (fun _ => ow c 0) _ _ (run_last m K c)
  simp only [bigSep_sep'] at h
  exact h

/-- The sends over y have left, -/
theorem loop_leftY :
    iprop(recs m K ∗ ow c 0 ∗ (bigSep Finset.univ fun k => crd c (.ys k)) ∗ bigSep Finset.univ fun k => pos c (.ys k) 0)
      ⊢ WP c (all16.flatMap (opsLeftY (lay c))) iprop(ow c 0 ∗ (bigSep Finset.univ fun k => pos c (.ys k) 1) ∗ bigSep Finset.univ fun k => srcP m c k) := by
  have h := wp_loop m K c (opsLeftY (lay c)) (fun _ => ow c 0) _ _ (run_leftY m K c)
  simp only [bigSep_sep'] at h
  exact h

/-- so have the forwarding sends, -/
theorem loop_leftF :
    iprop(recs m K ∗ ow c 0 ∗ ((bigSep Finset.univ fun k => crd c (.xs k)) ∗ bigSep Finset.univ fun k => pos c (.xs k) 0)
        ∗ (bigSep Finset.univ fun k => crd c (.zs k)) ∗ bigSep Finset.univ fun k => pos c (.zs k) 0)
      ⊢ WP c (all16.flatMap (opsLeftF (lay c))) iprop(ow c 0 ∗ (bigSep Finset.univ fun k => pos c (.xs k) 1) ∗ (bigSep Finset.univ fun k => pos c (.zs k) 1)
          ∗ bigSep Finset.univ fun k => rg c c k fullShare (outF m c)) := by
  have h := wp_loop m K c (opsLeftF (lay c)) (fun _ => ow c 0) _ _ (run_leftF m K c)
  simp only [bigSep_sep'] at h
  exact h

/-- and those of the second hop. -/
theorem loop_leftT :
    iprop(recs m K ∗ ow c 0 ∗ (bigSep Finset.univ fun k => crd c (.ts k)) ∗ bigSep Finset.univ fun k => pos c (.ts k) 0)
      ⊢ WP c (all16.flatMap (opsLeftT (lay c))) iprop(ow c 0 ∗ (bigSep Finset.univ fun k => pos c (.ts k) 1)
          ∗ bigSep Finset.univ fun k => rg c (fp k c) k fullShare (outF m c)) := by
  have h := wp_loop m K c (opsLeftT (lay c)) (fun _ => ow c 0) _ _ (run_leftT m K c)
  simp only [bigSep_sep'] at h
  exact h

/-! ## Blocks dealt out and put together -/

/-- Of two families the even chunks of one and the odd chunks of the other. -/
theorem even_odd (P Q : Fin 16 → sProp 𝕄) :
    iprop((bigSep Finset.univ fun k : Fin 16 => if k.val % 2 = 0 then iprop(emp) else P k) ∗ bigSep Finset.univ fun k : Fin 16 => if k.val % 2 = 0 then Q k else iprop(emp))
      = bigSep Finset.univ fun k : Fin 16 => if k.val % 2 = 0 then Q k else P k := by
  rw [← bigSep_sep']
  refine bigSep_congr fun k _ => ?_
  split
  · refine BI.Entails.antisymm (show _ ⊢ (_ : sProp 𝕄) from ?_) (show _ ⊢ (_ : sProp 𝕄) from ?_)
    · iintro ⟨-, H⟩
      iexact H
    · iintro H
      isplitr
      · iempintro
      · iexact H
  · refine BI.Entails.antisymm (show _ ⊢ (_ : sProp 𝕄) from ?_) (show _ ⊢ (_ : sProp 𝕄) from ?_)
    · iintro ⟨H, -⟩
      iexact H
    · iintro H
      isplitl
      · iexact H
      · iempintro

/-- What the three neighbours permit, block by block. -/
theorem grants_got :
    iprop(grantY m (yp c) ∗ grantX m (xp c) ∗ grantZ m (zp c))
      ⊢ iprop((bigSep Finset.univ fun k => rg (yp c) (yp c) k fullShare (out0 m (yp c)))
          ∗ (bigSep Finset.univ fun k => rg (xp c) c k fullShare (out0 m (xp c)))
          ∗ (bigSep Finset.univ fun k => rg (zp c) c k fullShare (out0 m (zp c)))
          ∗ bigSep Finset.univ fun k => rg (tp k c) (fp k c) k fullShare (out0 m (tp k c))) := by
  unfold grantY grantX grantZ
  rw [xp_xp, zp_zp, xp_zp_xp, bigSep_sep', bigSep_sep']
  have h : iprop((bigSep Finset.univ fun k : Fin 16 => if k.val % 2 = 0 then iprop(emp) else rg (xp c) (zp c) k fullShare (out0 m (xp c)))
      ∗ bigSep Finset.univ fun k : Fin 16 => if k.val % 2 = 0 then rg (zp c) (xp c) k fullShare (out0 m (zp c)) else iprop(emp))
      ⊢ (bigSep Finset.univ fun k => rg (tp k c) (fp k c) k fullShare (out0 m (tp k c)) : sProp 𝕄) := by
    rw [even_odd]
    refine bigSep_mono fun k _ => (show _ ⊢ (_ : sProp 𝕄) from ?_)
    by_cases hk : k.val % 2 = 0
    · rw [show tp k c = zp c from if_pos hk, show fp k c = xp c from if_pos hk, if_pos hk]
    · rw [show tp k c = xp c from if_neg hk, show fp k c = zp c from if_neg hk, if_neg hk]
  iintro ⟨HY, ⟨HX, HX'⟩, HZ, HZ'⟩
  isplitl [HY]; · iexact HY
  isplitl [HX]; · iexact HX
  isplitl [HZ]; · iexact HZ
  iapply h
  isplitl [HX'] <;> iassumption

/-- The quarters of the own result, as the permissions of the neighbours. -/
theorem grants_give :
    iprop((bigSep Finset.univ fun k => rg c c k fullShare (out0 m c)) ∗ (bigSep Finset.univ fun k => rg c (xp c) k fullShare (out0 m c))
        ∗ (bigSep Finset.univ fun k => rg c (zp c) k fullShare (out0 m c)) ∗ bigSep Finset.univ fun k => rg c (xp (zp c)) k fullShare (out0 m c))
      ⊢ iprop(grantY m c ∗ grantX m c ∗ grantZ m c) := by
  unfold grantY grantX grantZ
  rw [bigSep_sep', bigSep_sep']
  have h : (bigSep Finset.univ fun k => rg c (xp (zp c)) k fullShare (out0 m c) : sProp 𝕄)
      ⊢ iprop((bigSep Finset.univ fun k : Fin 16 => if k.val % 2 = 0 then iprop(emp) else rg c (xp (zp c)) k fullShare (out0 m c))
        ∗ bigSep Finset.univ fun k : Fin 16 => if k.val % 2 = 0 then rg c (xp (zp c)) k fullShare (out0 m c) else iprop(emp)) := by
    rw [even_odd]
    refine bigSep_mono fun k _ => (show _ ⊢ (_ : sProp 𝕄) from ?_)
    split <;> exact .rfl
  iintro ⟨HY, HX, HZ, HD⟩
  ihave HD := h $$ HD
  icases HD with ⟨HD, HD'⟩
  isplitl [HY]; · iexact HY
  isplitl [HX HD]
  · isplitl [HX] <;> iassumption
  isplitl [HZ] <;> iassumption

/-- The chunks passed on over the second hop and those not passed on are the two quarters that came over x and z. -/
theorem both_hops (f : Buf (Elt F) ((c : Thread nD τ).loc main_v1)) :
    iprop((bigSep Finset.univ fun k => rg c (tp k c) k fullShare f) ∗ bigSep Finset.univ fun k => rg c (fp k c) k fullShare f)
      ⊢ (iprop((bigSep Finset.univ fun k => rg c (xp c) k fullShare f) ∗ bigSep Finset.univ fun k => rg c (zp c) k fullShare f) : sProp 𝕄) := by
  rw [← bigSep_sep', ← bigSep_sep']
  refine bigSep_mono fun k _ => (show _ ⊢ (_ : sProp 𝕄) from ?_)
  unfold tp fp
  split
  · iintro ⟨H, H'⟩
    isplitl [H'] <;> iassumption
  · exact .rfl

/-- The chunks of the own half that the middle loop finished, and the last two. -/
theorem gone_all :
    iprop((bigSep Finset.univ fun k => Gone m c k) ∗ stP c 14 (outF m c) ∗ stP c 15 (outF m c)) ⊢ (bigSep Finset.univ fun k => stP c k (outF m c) : sProp 𝕄) := by
  have h (Ψ : Fin 16 → sProp 𝕄) : bigSep Finset.univ Ψ = bigSepL all16 Ψ := bigSep_univ_eq_bigSepL all16 (by decide) (by decide) Ψ
  rw [h, h]
  unfold all16
  simp only [bigSepL_cons']
  have e (k : Fin 16) (hk : 2 ≤ k.val) : Gone m c k ⊢ stP c (before k) (outF m c) := by unfold Gone; rw [if_pos hk]
  iintro ⟨⟨-, -, H0, H1, H2, H3, H4, H5, H6, H7, H8, H9, H10, H11, H12, H13, -⟩, H14, H15⟩
  isplitl [H0]; · iapply (e 2 (by decide)); iexact H0
  isplitl [H1]; · iapply (e 3 (by decide)); iexact H1
  isplitl [H2]; · iapply (e 4 (by decide)); iexact H2
  isplitl [H3]; · iapply (e 5 (by decide)); iexact H3
  isplitl [H4]; · iapply (e 6 (by decide)); iexact H4
  isplitl [H5]; · iapply (e 7 (by decide)); iexact H5
  isplitl [H6]; · iapply (e 8 (by decide)); iexact H6
  isplitl [H7]; · iapply (e 9 (by decide)); iexact H7
  isplitl [H8]; · iapply (e 10 (by decide)); iexact H8
  isplitl [H9]; · iapply (e 11 (by decide)); iexact H9
  isplitl [H10]; · iapply (e 12 (by decide)); iexact H10
  isplitl [H11]; · iapply (e 13 (by decide)); iexact H11
  isplitl [H12]; · iapply (e 14 (by decide)); iexact H12
  isplitl [H13]; · iapply (e 15 (by decide)); iexact H13
  isplitl [H14]; · iexact H14
  isplitl [H15]; · iexact H15
  exact .rfl

/-- The argument is held in two half shares; of the left one the chunks that leave over y are taken out, of the right one
    the chunks that are kept. -/
def argRest : sProp 𝕄 :=
  iprop(((c : Thread nD τ).loc main_arg0 ↦[Finset.univ \ Finset.univ.biUnion fun k => (srcB c k).view.set]{fullShare.left} X m c)
    ∗ (c : Thread nD τ).loc main_arg0 ↦[Finset.univ \ Finset.univ.biUnion fun k => (ldB c k).view.set]{fullShare.right} X m c)

/-- The argument is the chunks that leave over y, those that are kept, and the rest. -/
theorem arg_split :
    ((c : Thread nD τ).loc main_arg0 ↦{fullShare} X m c : sProp 𝕄)
      ⊣⊢ iprop((bigSep Finset.univ fun k => srcP m c k) ∗ (bigSep Finset.univ fun k => ldP m c k) ∗ argRest m c) := by
  have hs := pointsTo_share (Ix := Unit) (Val := Elt F) (Name := ℕ) (U := UU) (Lvl := ℕ) (ℓ := (c : Thread nD τ).loc main_arg0) (I := Finset.univ) (f := X m c) (PosShare.mem_left_op_right fullShare)
  have hl := take_out (F := F) (ℓ := (c : Thread nD τ).loc main_arg0) (fun k => (srcB c k).view.set) (srcB_disjoint c) fullShare.left (X m c)
  have hr := take_out (F := F) (ℓ := (c : Thread nD τ).loc main_arg0) (fun k => (ldB c k).view.set) (ldB_disjoint c) fullShare.right (X m c)
  constructor
  · iintro H
    ihave H := hs.1 $$ H
    icases H with ⟨Hl, Hr⟩
    ihave Hl := hl.1 $$ Hl
    ihave Hr := hr.1 $$ Hr
    icases Hl with ⟨Hl, Hl'⟩
    icases Hr with ⟨Hr, Hr'⟩
    isplitl [Hl]; · iexact Hl
    isplitl [Hr]; · iexact Hr
    unfold argRest
    isplitl [Hl'] <;> iassumption
  · unfold argRest
    iintro ⟨Hl, Hr, Hl', Hr'⟩
    iapply hs.2
    isplitl [Hl Hl']
    · iapply hl.2
      isplitl [Hl]; · iexact Hl
      iexact Hl'
    · iapply hr.2
      isplitl [Hr]; · iexact Hr
      iexact Hr'

/-- What device `c` owes at the launch: a signal to each neighbour and all the arrivals. -/
def O₀ : CellTallies nD τ sig Unit :=
  (((owM c 0 + owY c 0) + tallyAt (cell (zp c) .bar) () 1) + tallyAt (cell (xp c) .bar) () 1) + tallyAt (cell (yp c) .bar) () 1

/-- The contributions that are device `c`'s to make. -/
def toksOf : sProp 𝕄 :=
  iprop(((bigSep Finset.univ fun k => tok c (.ys k) 0 0) ∗ (bigSep Finset.univ fun k => tok (yp c) (.yr k) 0 0)
      ∗ (bigSep Finset.univ fun k => tok c (.xs k) 0 0) ∗ (bigSep Finset.univ fun k => tok (xp c) (.xr k) 0 0)
      ∗ (bigSep Finset.univ fun k => tok c (.zs k) 0 0) ∗ (bigSep Finset.univ fun k => tok (zp c) (.zr k) 0 0)
      ∗ (bigSep Finset.univ fun k => tok c (.ts k) 0 0) ∗ (bigSep Finset.univ fun k => tok (tp k c) (.tr k) 0 0))
    ∗ ((bigSep Finset.univ fun k : Fin 16 => tok c (.ld (par k)) (k.val / 2) 0) ∗ (bigSep Finset.univ fun k : Fin 16 => tok c (.st (par k)) (k.val / 2) 0))
    ∗ (tok (yp c) .bar 0 0 ∗ tok (xp c) .bar 0 1 ∗ tok (zp c) .bar 0 2))

/-- The contributions it is promised from elsewhere. -/
def crdsOf : sProp 𝕄 :=
  iprop((bigSep Finset.univ fun k => crd c (.yr k)) ∗ (bigSep Finset.univ fun k => crd c (.xr k)) ∗ (bigSep Finset.univ fun k => crd c (.zr k))
    ∗ (bigSep Finset.univ fun k => crd c (.tr k)) ∗ cred (tallyAt (cell c .bar) () 3))

/-- The two halves of the staging buffer, and whatever it has beside them. -/
def vAll : sProp 𝕄 := iprop(∃ f : Buf (Elt F) ((c : Thread nD τ).loc cc0_scratch0), (c : Thread nD τ).loc cc0_scratch0 ↦{fullShare} f)

/-- The elements of half `b` have `b` for their first coordinate. -/
theorem mem_vBuf (b : Fin 2) (i : S2x1024x1024.Idx) (hi : i ∈ (vBuf b).view.set) : (i 0).val = b.val := by
  have h : i ∈ ((View.whole cc0_scratch0).slice (Rect.unit (s := S2x1024x1024) ![b.val, 0, 0] S1x1024x1024.size (vbuf_inb b))).set := by
    exact (Finset.ext_iff.mp (View.set_reshape _ _) i).mp hi
  have h' := (Rect.mem_set_unit.mp ((mem_slice cc0_scratch0 (Rect.unit (s := S2x1024x1024) ![b.val, 0, 0] S1x1024x1024.size (vbuf_inb b)) i).mp h)) 0
  have h1 : b.val ≤ (i 0).val := h'.1
  have h2 : (i 0).val < b.val + 1 := h'.2
  omega

/-- What is in the staging buffer beside its halves: nothing, but that need not be known. -/
def vRest : sProp 𝕄 :=
  iprop(∃ f : Buf (Elt F) ((c : Thread nD τ).loc cc0_scratch0), (c : Thread nD τ).loc cc0_scratch0 ↦[(Finset.univ \ (vBuf 0).view.set) \ (vBuf 1).view.set]{fullShare} f)

/-- The second staging half lies outside the first. -/
theorem v_sub : (vBuf 1).view.set ⊆ (Finset.univ \ (vBuf 0).view.set : Finset S2x1024x1024.Idx) := fun i hi =>
  Finset.mem_sdiff.mpr ⟨Finset.mem_univ i, fun h0 => by
    have a := mem_vBuf 0 i h0
    have b := mem_vBuf 1 i hi
    have : (0 : Fin 2).val = (1 : Fin 2).val := a.symm.trans b
    exact absurd this (by decide)⟩

/-- The staging buffer is its two halves and the rest, -/
theorem v_split : (vAll c : sProp 𝕄) ⊢ iprop((∃ f, vP c 0 f) ∗ (∃ f, vP c 1 f) ∗ vRest c) := by
  unfold vAll vRest vP
  iintro ⟨%f, H⟩
  ihave H := (pointsTo_split_subset (ℓ := (c : Thread nD τ).loc cc0_scratch0) (S := Finset.univ) (I := (vBuf 0).view.set) (Finset.subset_univ _)).1 $$ H
  icases H with ⟨H0, H⟩
  ihave H := (pointsTo_split_subset (ℓ := (c : Thread nD τ).loc cc0_scratch0) (S := Finset.univ \ (vBuf 0).view.set) (I := (vBuf 1).view.set) v_sub).1 $$ H
  icases H with ⟨H1, H⟩
  isplitl [H0]; · iexists f; iexact H0
  isplitl [H1]; · iexists f; iexact H1
  iexists f; iexact H

/-- and is put together from them. -/
theorem v_join : iprop((∃ f, vP c 0 f) ∗ (∃ f, vP c 1 f) ∗ vRest c) ⊢ (vAll c : sProp 𝕄) := by
  unfold vAll vRest vP
  iintro ⟨⟨%f, H0⟩, ⟨%g, H1⟩, %h, H⟩
  iexists (fun i => if i ∈ (vBuf 0).view.set then f i else if i ∈ (vBuf 1).view.set then g i else h i)
  iapply (pointsTo_split_subset (ℓ := (c : Thread nD τ).loc cc0_scratch0) (S := Finset.univ) (I := (vBuf 0).view.set) (Finset.subset_univ _)).2
  isplitl [H0]
  · rw [pointsTo_congr (ℓ := (c : Thread nD τ).loc cc0_scratch0) (I := (vBuf 0).view.set) (g := f) fun i hi => if_pos hi]
    iexact H0
  iapply (pointsTo_split_subset (ℓ := (c : Thread nD τ).loc cc0_scratch0) (S := Finset.univ \ (vBuf 0).view.set) (I := (vBuf 1).view.set) v_sub).2
  isplitl [H1]
  · rw [pointsTo_congr (ℓ := (c : Thread nD τ).loc cc0_scratch0) (I := (vBuf 1).view.set) (g := g) fun i hi =>
      (if_neg (Finset.mem_sdiff.mp (v_sub hi)).2).trans (if_pos hi)]
    iexact H1
  rw [pointsTo_congr (ℓ := (c : Thread nD τ).loc cc0_scratch0) (I := (Finset.univ \ (vBuf 0).view.set) \ (vBuf 1).view.set) (g := h) fun i hi =>
      (if_neg (Finset.mem_sdiff.mp (Finset.mem_sdiff.mp hi).1).2).trans (if_neg (Finset.mem_sdiff.mp hi).2)]
  iexact H

end Cert.A2A
-- ==== Proof.Device.lean ====
/-
The kernel on one device: the theorem about its whole text.
-/
module

public import proofs.«01_k».proof.Proof.Whole

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- The buffers of device `c` before the kernel, -/
def memStart : sProp 𝕄 :=
  iprop(((c : Thread nD τ).loc main_arg0 ↦{fullShare} X m c) ∗ ((c : Thread nD τ).loc main_v1 ↦{fullShare} out0 m c) ∗ vAll c)
/-- and after it: the argument as it was, the result at its final contents. -/
def memEnd : sProp 𝕄 :=
  iprop(((c : Thread nD τ).loc main_arg0 ↦{fullShare} X m c) ∗ ((c : Thread nD τ).loc main_v1 ↦{fullShare} outF m c) ∗ vAll c)

/-- What forwarding takes, for all chunks together. -/
theorem fwdIn_all :
    iprop((bigSep Finset.univ fun k => crd c (.yr k)) ∗ (bigSep Finset.univ fun k => pos c (.yr k) 0)
        ∗ ((bigSep Finset.univ fun k => tok c (.xs k) 0 0) ∗ (bigSep Finset.univ fun k => tok (xp c) (.xr k) 0 0)
          ∗ bigSep Finset.univ fun k => rg (xp c) c k fullShare (out0 m (xp c)))
        ∗ ((bigSep Finset.univ fun k => tok c (.zs k) 0 0) ∗ (bigSep Finset.univ fun k => tok (zp c) (.zr k) 0 0)
          ∗ bigSep Finset.univ fun k => rg (zp c) c k fullShare (out0 m (zp c))))
      = bigSep Finset.univ fun k => fwdIn m c k := by
  unfold fwdIn
  simp only [bigSep_sep']
/-- What copying the own half takes, for all chunks together. -/
theorem locIn_all :
    iprop((bigSep Finset.univ fun k => ldP m c k) ∗ (bigSep Finset.univ fun k => stP c k (out0 m c))
        ∗ (bigSep Finset.univ fun k : Fin 16 => tok c (.ld (par k)) (k.val / 2) 0) ∗ bigSep Finset.univ fun k : Fin 16 => tok c (.st (par k)) (k.val / 2) 0)
      = bigSep Finset.univ fun k => locIn m c k := by
  unfold locIn
  simp only [bigSep_sep']
/-- What the second loop leaves, for all chunks together. -/
theorem midOut_all :
    (bigSep Finset.univ fun k => midOut m c k : sProp 𝕄)
      = iprop((bigSep Finset.univ fun k => Gone m c k) ∗ (bigSep Finset.univ fun k => ldP m c k) ∗ (bigSep Finset.univ fun k => pos c (.yr k) 1)
        ∗ (bigSep Finset.univ fun k => crd c (.xs k)) ∗ bigSep Finset.univ fun k => crd c (.zs k)) := by
  unfold midOut fwdOut
  simp only [bigSep_sep']
/-- What the third loop takes, for all chunks together. -/
theorem twiceIn_all :
    iprop(((bigSep Finset.univ fun k => crd c (.xr k)) ∗ bigSep Finset.univ fun k => pos c (.xr k) 0)
        ∗ ((bigSep Finset.univ fun k => crd c (.zr k)) ∗ bigSep Finset.univ fun k => pos c (.zr k) 0)
        ∗ (bigSep Finset.univ fun k => tok c (.ts k) 0 0) ∗ (bigSep Finset.univ fun k => tok (tp k c) (.tr k) 0 0)
        ∗ bigSep Finset.univ fun k => rg (tp k c) (fp k c) k fullShare (out0 m (tp k c)))
      = bigSep Finset.univ fun k => twiceIn m c k := by
  unfold twiceIn
  simp only [bigSep_sep']
/-- What the third loop leaves, for all chunks together. -/
theorem twiceOut_all :
    (bigSep Finset.univ fun k => twiceOut m c k : sProp 𝕄)
      = iprop((bigSep Finset.univ fun k => pos c (.xr k) 1) ∗ (bigSep Finset.univ fun k => pos c (.zr k) 1) ∗ (bigSep Finset.univ fun k => crd c (.ts k))
        ∗ bigSep Finset.univ fun k => rg c (tp k c) k fullShare (outF m c)) := by
  unfold twiceOut
  simp only [bigSep_sep']

/-- The state in which the second loop starts. -/
theorem midT_start :
    iprop(ow c (owM c 0) ∗ ((∃ f, vP c 0 f) ∗ pos c (.ld 0) 0 ∗ pos c (.st 0) 0) ∗ (∃ f, vP c 1 f) ∗ pos c (.ld 1) 0 ∗ pos c (.st 1) 0)
      ⊢ (midT c 0 : sProp 𝕄) := Entails.of_eq rfl

/-- On every device, whatever the others do: with what the launch gives it the kernel's text ends with nothing owed, every
    semaphore through its rounds, the argument untouched and the result at its final contents. -/
theorem run_dev :
    iprop(recs m K ∗ ow c (O₀ c) ∗ posAll c (fun _ => 0) ∗ toksOf c ∗ crdsOf c ∗ memStart m c)
      ⊢ WP c (ops (lay c)) iprop(ow c 0 ∗ posAll c rounds ∗ memEnd m c) := by
  unfold toksOf crdsOf memStart O₀ ops
  rw [posAll_start, out_blocks]
  iintro ⟨#HR, HO, ⟨⟨Pys, Pyr, Pxs, Pxr, Pzs, Pzr, Pts, Ptr⟩, ⟨⟨Pl0, Pl1⟩, Ps0, Ps1⟩, Pb, Pn⟩,
    ⟨⟨Tys, Tyr, Txs, Txr, Tzs, Tzr, Tts, Ttr⟩, ⟨Tld, Tst⟩, Tb0, Tb1, Tb2⟩, ⟨Cyr, Cxr, Czr, Ctr, Cb⟩, HA, ⟨Hst, Hr0, Hr1, Hr2, Hr3⟩, HV⟩
  ihave HA := (arg_split m c).1 $$ HA
  icases HA with ⟨Hsrc, Hld, HA⟩
  ihave HV := (v_split c) $$ HV
  icases HV with ⟨HV0, HV1, HV⟩
  ihave Hg := (grants_give m c) $$ [Hr0 Hr1 Hr2 Hr3]
  · isplitl [Hr0]; · iexact Hr0
    isplitl [Hr1]; · iexact Hr1
    isplitl [Hr2] <;> iassumption
  icases Hg with ⟨HgY, HgX, HgZ⟩
  -- the barrier
  iapply (wp_then m K c (run_bar m K c (owM c 0 + owY c 0) (((owM_above c 0).weaken (by decide)).add (owY_above c 0)))) $$ [HO Tb0 Tb1 Tb2 HgY HgX HgZ Cb Pb]
  · isplitr; · iexact HR
    isplitl [HO]; · iexact HO
    isplitl [Tb0]; · iexact Tb0
    isplitl [Tb1]; · iexact Tb1
    isplitl [Tb2]; · iexact Tb2
    isplitl [HgY]; · iexact HgY
    isplitl [HgX]; · iexact HgX
    isplitl [HgZ]; · iexact HgZ
    isplitl [Cb] <;> iassumption
  iintro ⟨HO, Pb, Hg⟩
  ihave Hg := (grants_got m c) $$ Hg
  icases Hg with ⟨HgY, HgX, HgZ, HgT⟩
  -- everything leaves over y
  iapply (wp_then m K c (loop_send m K c)) $$ [HO Hsrc HgY Tys Tyr]
  · isplitr; · iexact HR
    isplitl [HO]; · iexact HO
    isplitl [Hsrc]; · iexact Hsrc
    isplitl [HgY]; · iexact HgY
    isplitl [Tys] <;> iassumption
  iintro ⟨HO, Cys⟩
  -- the own half, and the forwarding over x and z
  iapply (wp_then m K c (loop_mid m K c)) $$ [HO HV0 HV1 Pl0 Pl1 Ps0 Ps1 Hld Hst Tld Tst Cyr Pyr Txs Txr HgX Tzs Tzr HgZ]
  · isplitr; · iexact HR
    isplitl [HO HV0 HV1 Pl0 Pl1 Ps0 Ps1]
    · iapply (midT_start c)
      isplitl [HO]; · iexact HO
      isplitl [HV0 Pl0 Ps0]
      · isplitl [HV0]; · iexact HV0
        isplitl [Pl0] <;> iassumption
      · isplitl [HV1]; · iexact HV1
        isplitl [Pl1] <;> iassumption
    isplitl [Hld Hst Tld Tst]
    · rw [← locIn_all]
      isplitl [Hld]; · iexact Hld
      isplitl [Hst]; · iexact Hst
      isplitl [Tld] <;> iassumption
    · rw [← fwdIn_all]
      isplitl [Cyr]; · iexact Cyr
      isplitl [Pyr]; · iexact Pyr
      isplitl [Txs Txr HgX]
      · isplitl [Txs]; · iexact Txs
        isplitl [Txr] <;> iassumption
      · isplitl [Tzs]; · iexact Tzs
        isplitl [Tzr] <;> iassumption
  rw [midOut_all]
  iintro ⟨HT, Hgone, Hld, Pyr, Cxs, Czs⟩
  have hT : (midT c 16 : sProp 𝕄) ⊢ iprop(ow c (owT c 0) ∗ St c 0 8 ∗ St c 1 8) := by unfold midT; rw [owM_end]
  ihave HT := hT $$ HT
  icases HT with ⟨HO, HS0, HS1⟩
  -- the second hop
  iapply (wp_then m K c (loop_twice m K c)) $$ [HO Cxr Pxr Czr Pzr Tts Ttr HgT]
  · isplitr; · iexact HR
    isplitl [HO]; · iexact HO
    rw [← twiceIn_all]
    isplitl [Cxr Pxr]
    · isplitl [Cxr] <;> iassumption
    isplitl [Czr Pzr]
    · isplitl [Czr] <;> iassumption
    isplitl [Tts]; · iexact Tts
    isplitl [Ttr] <;> iassumption
  rw [twiceOut_all]
  iintro ⟨HO, Pxr, Pzr, Cts, Htp⟩
  iapply (wp_then m K c (loop_last m K c)) $$ [HO Ctr Ptr]
  · isplitr; · iexact HR
    isplitl [HO]; · iexact HO
    isplitl [Ctr] <;> iassumption
  iintro ⟨HO, Ptr, Hr3⟩
  -- the sends have left
  iapply (wp_then m K c (loop_leftY m K c)) $$ [HO Cys Pys]
  · isplitr; · iexact HR
    isplitl [HO]; · iexact HO
    isplitl [Cys] <;> iassumption
  iintro ⟨HO, Pys, Hsrc⟩
  iapply (wp_then m K c (loop_leftF m K c)) $$ [HO Cxs Pxs Czs Pzs]
  · isplitr; · iexact HR
    isplitl [HO]; · iexact HO
    isplitl [Cxs Pxs]
    · isplitl [Cxs] <;> iassumption
    · isplitl [Czs] <;> iassumption
  iintro ⟨HO, Pxs, Pzs, Hr0⟩
  iapply (wp_then m K c (loop_leftT m K c)) $$ [HO Cts Pts]
  · isplitr; · iexact HR
    isplitl [HO]; · iexact HO
    isplitl [Cts] <;> iassumption
  iintro ⟨HO, Pts, Hfp⟩
  -- the last two stores
  iapply (wp_last m K c (run_end m K c) (R := iprop((ow c 0 ∗ (Fr c 0 8 ∗ stP c 14 (outF m c)) ∗ Fr c 1 8 ∗ stP c 15 (outF m c)) -∗ (ow c 0 ∗ posAll c rounds ∗ memEnd m c))) .rfl
    (by iintro ⟨H, Hk⟩; iapply Hk; iexact H))
  isplitr; · iexact HR
  isplitl [HO HS0 HS1]
  · isplitl [HO]; · iexact HO
    isplitl [HS0] <;> iassumption
  unfold Fr memEnd
  rw [posAll_end, out_blocks]
  iintro ⟨HO, ⟨⟨HV0, Pl0, -, Ps0, -⟩, H14⟩, ⟨HV1, Pl1, -, Ps1, -⟩, H15⟩
  isplitl [HO]; · iexact HO
  isplitl [Pys Pyr Pxs Pxr Pzs Pzr Pts Ptr Pl0 Pl1 Ps0 Ps1 Pb Pn]
  · isplitl [Pys Pyr Pxs Pxr Pzs Pzr Pts Ptr]
    · isplitl [Pys]; · iexact Pys
      isplitl [Pyr]; · iexact Pyr
      isplitl [Pxs]; · iexact Pxs
      isplitl [Pxr]; · iexact Pxr
      isplitl [Pzs]; · iexact Pzs
      isplitl [Pzr]; · iexact Pzr
      isplitl [Pts] <;> iassumption
    isplitl [Pl0 Pl1 Ps0 Ps1]
    · isplitl [Pl0 Pl1]
      · isplitl [Pl0] <;> iassumption
      · isplitl [Ps0] <;> iassumption
    isplitl [Pb] <;> iassumption
  isplitl [Hsrc Hld HA]
  · iapply (arg_split m c).2
    isplitl [Hsrc]; · iexact Hsrc
    isplitl [Hld] <;> iassumption
  isplitr [HV0 HV1 HV]
  · isplitl [Hgone H14 H15]
    · iapply (gone_all m c)
      isplitl [Hgone]; · iexact Hgone
      isplitl [H14] <;> iassumption
    isplitl [Hr0]; · iexact Hr0
    ihave H := (both_hops c (outF m c)) $$ [Htp Hfp]
    · isplitl [Htp] <;> iassumption
    icases H with ⟨Hr1, Hr2⟩
    isplitl [Hr1]; · iexact Hr1
    isplitl [Hr2] <;> iassumption
  iapply (v_join c)
  isplitl [HV0]; · iexact HV0
  isplitl [HV1] <;> iassumption

/-- A semaphore through its rounds is given back at zero. -/
theorem close_all : iprop(recs m K ∗ posAll c rounds) ⊢ |={Set.univ}=> bigSep Finset.univ fun s : SemLoc sig => (semVal ((c : Thread nD τ), s) 0 : sProp 𝕄) := by
  unfold posAll
  have h (s : SemLoc sig) : iprop(recs m K ∗ atPos ER ((c : Thread nD τ), s) (rounds (kd s)) ∅ 0) ⊢ |={Set.univ}=> (semVal ((c : Thread nD τ), s) 0 : sProp 𝕄) := by
    have hs : cell c (kd s) = ((c : Thread nD τ), s) := congrArg (Prod.mk (c : Thread nD τ)) (loc_kd s)
    rw [← hs]
    iintro ⟨HR, Hp⟩
    ihave HI := (recs_inv m K c (kd s)) $$ HR
    iapply (cell_close ER (Rd m) (Set.mem_univ _) (fun h => h) (R := rounds (kd s)) (fun r hr => duties_end m c (kd s) r hr))
    isplitl [HI]; · iexact HI
    iexact Hp
  have h' : iprop(recs m K ∗ bigSep Finset.univ fun s : SemLoc sig => atPos ER ((c : Thread nD τ), s) (rounds (kd s)) ∅ 0)
      ⊢ bigSep Finset.univ fun s : SemLoc sig => iprop(|={Set.univ}=> (semVal ((c : Thread nD τ), s) 0 : sProp 𝕄)) :=
    (sep_mono_left (BI.bigSep_of_persistent Finset.univ (recs m K))).trans (by rw [← bigSep_sep']; exact bigSep_mono fun s _ => h s)
  exact h'.trans (bigSep_fupd _ _)

end Cert.A2A
-- ==== Proof.Start.lean ====
/-
What the launch deals out: the semaphores at zero become the invariants of the schedule, the rights to contribute go to the
devices that will contribute, and what every device owes at the start is what the others are promised.
-/
module

public import proofs.«01_k».proof.Proof.Device
public import proofs.«01_k».proof.Proof.Gen.KernelIdeal.Launch
public import Idealize.ShloMosaic.Lib.Pipeline.Launch
public import Idealize.ShloMosaic.Lib.Pipeline.Kit

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores -/

/-- The kernel's own semaphores: all those of copies. -/
abbrev osem : Fin 133 → SemLoc sig := fun i => .dma i

/-- They are the kernel's own and different from each other. -/
theorem ownSemFacts : Pipeline.OwnSemFacts cfg0.spec osem :=
  ⟨by decide, fun i j h => by injection h, fun _ w => w.elim0⟩

/-- A device's semaphores are those of copies and the barrier. -/
def allSems : Fin 133 ⊕ Fin 1 ≃ SemLoc sig where
  toFun | .inl i => .dma i | .inr i => .reg i
  invFun | .dma i => .inl i | .reg i => .inr i
  left_inv x := by rcases x with i | i <;> rfl
  right_inv s := by cases s <;> rfl

/-- The own semaphores at zero and the barrier at zero are all at zero. -/
theorem sems_eq (c : Dev nD) :
    (iprop(Pipeline.ownSems0 (Ix := Unit) (Name := ℕ) (U := UU) (Lvl := ℕ) (Val := Elt F) (τ := τ) osem c ∗ unscopedSems0 c) : sProp 𝕄)
      = bigSep Finset.univ fun s : SemLoc sig => semVal ((c : Thread nD τ), s) 0 := by
  rw [bigSep_univ_equiv allSems, bigSep_univ_sum, bigSep_univ_eq_bigSepL [0] (by decide) (by decide) (fun i : Fin 1 => _)]
  unfold unscopedSems0
  rw [bigSep_eq_bigSepL_of_eq [SemLoc.reg barS] (by decide) (by decide)]
  rfl

/-! ## The rights to contribute -/

/-- The contributions to a device's semaphores: one to each of the eight of every chunk; for every chunk one load and one
    store of its staging half; three signals. -/
abbrev Tk : Type := (Fin 8 × Fin 16) ⊕ (Fin 2 × Fin 16) ⊕ Fin 3
/-- The semaphore, round and name of a contribution. -/
def tkAt : Tk → Kd × ℕ × D
  | .inl (a, k) => (fam a k, 0, 0)
  | .inr (.inl (b, k)) => (if b = 0 then .ld (par k) else .st (par k), k.val / 2, 0)
  | .inr (.inr d) => (.bar, 0, d)
/-- The contribution of a semaphore, round and name. -/
def atTk (x : Kd × ℕ × D) : Tk := match toKI x.1 with
  | .inl y => .inl y
  | .inr (.inl (.inl b)) => .inr (.inl (0, chunk b x.2.1))
  | .inr (.inl (.inr b)) => .inr (.inl (1, chunk b x.2.1))
  | .inr (.inr _) => .inr (.inr x.2.2)
/-- A contribution is found again from its semaphore, round and name. -/
theorem atTk_tkAt : ∀ t : Tk, atTk (tkAt t) = t := by decide +kernel

/-- A contribution to a semaphore of a device. -/
abbrev tkOf (p : Dev nD × Tk) : GSem nD τ sig × ℕ × D := (cell p.1 (tkAt p.2).1, (tkAt p.2).2.1, (tkAt p.2).2.2)
/-- Different contributions are different ones. -/
theorem tkOf_injective : Function.Injective tkOf := by
  rintro ⟨c, t⟩ ⟨c', t'⟩ h
  have hc : c = c' := congrArg (fun x : GSem nD τ sig × ℕ × D => x.1.1.1) h
  have hk : (tkAt t).1 = (tkAt t').1 := loc_inj (congrArg (fun x : GSem nD τ sig × ℕ × D => x.1.2) h)
  have hr : (tkAt t).2 = (tkAt t').2 := congrArg (fun x : GSem nD τ sig × ℕ × D => x.2) h
  have ht : t = t' := by rw [← atTk_tkAt t, ← atTk_tkAt t', Prod.ext hk hr]
  rw [hc, ht]

/-- A semaphore of a device. -/
abbrev cellOf' (p : Dev nD × SemLoc sig) : GSem nD τ sig := ((p.1 : Thread nD τ), p.2)
/-- Different ones are different. -/
theorem cellOf'_injective : Function.Injective cellOf' := by
  rintro ⟨c, s⟩ ⟨c', s'⟩ h
  have hc : c = c' := congrArg (fun g : GSem nD τ sig => g.1.1) h
  have hs : s = s' := congrArg Prod.snd h
  rw [hc, hs]

/-- All semaphores of all devices, -/
def ringCells : Finset (GSem nD τ sig) := Finset.univ.map ⟨cellOf', cellOf'_injective⟩
/-- and all contributions to them. -/
def ringToks : Finset (GSem nD τ sig × ℕ × D) := Finset.univ.map ⟨tkOf, tkOf_injective⟩

/-- The ghost state at the launch. -/
def u₀ : UU :=
  (initOf (Pipeline.cells cfgs cellOf_inj) (Pipeline.launchToks cfgs cellOf_inj), initOf ringCells ringToks)

/-- The rights to contribute to device `c`'s own semaphores. -/
def toksAt (c : Dev nD) : sProp 𝕄 := bigSep Finset.univ fun t : Tk => tok c (tkAt t).1 (tkAt t).2.1 (tkAt t).2.2

/-- What is made for device `c` at the launch. -/
def G (c : Dev nD) : sProp 𝕄 :=
  iprop((bigSep Finset.univ fun s : SemLoc sig => roundState ER (Rd m) ((c : Thread nD τ), s) 0)
    ∗ (bigSep Finset.univ fun s : SemLoc sig => reached ER ((c : Thread nD τ), s) 0) ∗ posAll c (fun _ => 0) ∗ toksAt c)

/-- The ghost state of the launch gives each device its part. -/
theorem fund_all : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun s : SemLoc sig => Φ ((c : Thread nD τ), s) := by
    unfold ringCells; rw [bigSep_map, bigSep_univ_prod]; rfl
  have hT : bigSep ringToks (fun x => (dutyTok ER x.1 x.2.1 x.2.2 : sProp 𝕄)) = bigSep Finset.univ fun c : Dev nD => toksAt c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posAll; simp only [bigSep_sep']
  isplitl [Hst']; · iexact Hst'
  isplitl [Hr']; · iexact Hr'
  isplitl [Hat']; · iexact Hat'
  iexact Htok'

/-- A device's rights, purpose by purpose. -/
theorem toksAt_eq (c : Dev nD) :
    (toksAt c : sProp 𝕄)
      = iprop(((bigSep Finset.univ fun k => tok c (.ys k) 0 0) ∗ (bigSep Finset.univ fun k => tok c (.yr k) 0 0)
          ∗ (bigSep Finset.univ fun k => tok c (.xs k) 0 0) ∗ (bigSep Finset.univ fun k => tok c (.xr k) 0 0)
          ∗ (bigSep Finset.univ fun k => tok c (.zs k) 0 0) ∗ (bigSep Finset.univ fun k => tok c (.zr k) 0 0)
          ∗ (bigSep Finset.univ fun k => tok c (.ts k) 0 0) ∗ (bigSep Finset.univ fun k => tok c (.tr k) 0 0))
        ∗ ((bigSep Finset.univ fun k : Fin 16 => tok c (.ld (par k)) (k.val / 2) 0) ∗ (bigSep Finset.univ fun k : Fin 16 => tok c (.st (par k)) (k.val / 2) 0))
        ∗ (tok c .bar 0 0 ∗ tok c .bar 0 1 ∗ tok c .bar 0 2)) := by
  have h8 (Ψ : Fin 8 → sProp 𝕄) : bigSep Finset.univ Ψ = iprop(Ψ 0 ∗ Ψ 1 ∗ Ψ 2 ∗ Ψ 3 ∗ Ψ 4 ∗ Ψ 5 ∗ Ψ 6 ∗ Ψ 7) :=
    bigSep_univ_eq_bigSepL [0, 1, 2, 3, 4, 5, 6, 7] (by decide) (by decide) Ψ
  have h2 (Ψ : Fin 2 → sProp 𝕄) : bigSep Finset.univ Ψ = iprop(Ψ 0 ∗ Ψ 1) := bigSep_univ_eq_bigSepL [0, 1] (by decide) (by decide) Ψ
  have h3 (Ψ : Fin 3 → sProp 𝕄) : bigSep Finset.univ Ψ = iprop(Ψ 0 ∗ Ψ 1 ∗ Ψ 2) := bigSep_univ_eq_bigSepL [0, 1, 2] (by decide) (by decide) Ψ
  unfold toksAt
  rw [bigSep_univ_sum, bigSep_univ_sum, bigSep_univ_prod, bigSep_univ_prod, h8, h2, h3]
  rfl

/-- A map of the devices that undoes itself, as a renaming of them. -/
def swap (f : Dev nD → Dev nD) (h : ∀ c, f (f c) = c) : Dev nD ≃ Dev nD := ⟨f, f, h, h⟩

/-- Device by device and chunk by chunk, or chunk by chunk and device by device. -/
theorem chunks_first (Φ : Fin 16 → Dev nD → sProp 𝕄) :
    (bigSep Finset.univ fun c : Dev nD => bigSep Finset.univ fun k => Φ k c) = bigSep Finset.univ fun k => bigSep Finset.univ fun c : Dev nD => Φ k c := by
  rw [← bigSep_univ_prod (fun p : Dev nD × Fin 16 => Φ p.2 p.1), ← bigSep_univ_prod (fun p : Fin 16 × Dev nD => Φ p.1 p.2)]
  exact bigSep_univ_equiv (Equiv.prodComm (Fin 16) (Dev nD)) fun p => Φ p.2 p.1

/-- Something for each chunk of every device is something for each chunk of every device's partner. -/
theorem chunks_around (f : Fin 16 → Dev nD → Dev nD) (h : ∀ k c, f k (f k c) = c) (Φ : Fin 16 → Dev nD → sProp 𝕄) :
    (bigSep Finset.univ fun c : Dev nD => bigSep Finset.univ fun k => Φ k c) = bigSep Finset.univ fun c : Dev nD => bigSep Finset.univ fun k => Φ k (f k c) := by
  rw [chunks_first, chunks_first fun k c => Φ k (f k c)]
  exact bigSep_congr fun k _ => bigSep_univ_equiv (swap (f k) (h k)) (Φ k)

/-- Every right goes to the device that will contribute. -/
theorem toks_around : (bigSep Finset.univ fun c : Dev nD => (toksAt c : sProp 𝕄)) = bigSep Finset.univ fun c : Dev nD => toksOf c := by
  have hb (f : Dev nD → Dev nD) (h : ∀ c, f (f c) = c) (d : D) : (bigSep Finset.univ fun c : Dev nD => (tok c .bar 0 d : sProp 𝕄)) = bigSep Finset.univ fun c : Dev nD => tok (f c) .bar 0 d :=
    bigSep_univ_equiv (swap f h) fun c => tok c .bar 0 d
  rw [bigSep_congr fun c _ => toksAt_eq c]
  unfold toksOf
  simp only [bigSep_sep']
  rw [chunks_around (fun _ => yp) (fun _ => yp_yp) fun k c => tok c (.yr k) 0 0, chunks_around (fun _ => xp) (fun _ => xp_xp) fun k c => tok c (.xr k) 0 0,
    chunks_around (fun _ => zp) (fun _ => zp_zp) fun k c => tok c (.zr k) 0 0, chunks_around tp tp_tp fun k c => tok c (.tr k) 0 0,
    hb yp yp_yp 0, hb xp xp_xp 1, hb zp zp_zp 2]

/-! ## The invariants -/

/-- What everybody knows beside the levels. -/
def recs' (K : Dev nD × SemLoc sig → ℕ) : sProp 𝕄 :=
  iprop((bigSep Finset.univ fun p : Dev nD × SemLoc sig => cellInv ER (Rd m) (K p) ((p.1 : Thread nD τ), p.2))
    ∗ bigSep Finset.univ fun p : Dev nD × SemLoc sig => reached ER ((p.1 : Thread nD τ), p.2) 0)

/-- It is known for good. -/
instance recs'_persistent (K : Dev nD × SemLoc sig → ℕ) : BI.Persistent (recs' m K) := by unfold recs'; infer_instance

/-- What device `c` starts with from the launch of the schedule. -/
def G' (c : Dev nD) : sProp 𝕄 := iprop(∃ K, recs' m K ∗ posAll c (fun _ => 0) ∗ toksOf c)

/-- The semaphores at zero become the invariants of the schedule. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (Rd m) κ ((c : Thread nD τ), s)))
          ∗ (bigSep Finset.univ fun s : SemLoc sig => reached ER ((c : Thread nD τ), s) 0) ∗ posAll c (fun _ => 0) ∗ toksAt c) := by
  unfold G
  iintro ⟨Hos, Hus, Hst, Hr, Hat, Htok⟩
  ihave Hv := (Entails.of_eq (sems_eq (F := F) c)) $$ [Hos Hus]
  · isplitl [Hos] <;> iassumption
  imod (show iprop((bigSep Finset.univ fun s : SemLoc sig => semVal ((c : Thread nD τ), s) 0) ∗ bigSep Finset.univ fun s : SemLoc sig => roundState ER (Rd m) ((c : Thread nD τ), s) 0)
      ⊢ (|={Set.univ}=> bigSep Finset.univ fun s : SemLoc sig => iprop(∃ κ : ℕ, cellInv ER (Rd m) κ ((c : Thread nD τ), s)) : sProp 𝕄) from by
        rw [← bigSep_sep']
        exact (bigSep_mono fun s _ => (Rounds.body_intro ER (Rd m) ((c : Thread nD τ), s)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- The invariants are made known to all, and the rights go round. -/
theorem regroup :
    (bigSep Finset.univ fun c : Dev nD => iprop((bigSep Finset.univ fun s : SemLoc sig => iprop(∃ κ : ℕ, cellInv ER (Rd m) κ ((c : Thread nD τ), s)))
          ∗ (bigSep Finset.univ fun s : SemLoc sig => reached ER ((c : Thread nD τ), s) 0) ∗ posAll c (fun _ => 0) ∗ toksAt c) : sProp 𝕄)
      ⊢ bigSep Finset.univ (G' m) := by
  rw [bigSep_sep', bigSep_sep', bigSep_sep', toks_around,
    ← bigSep_univ_prod (fun p : Dev nD × SemLoc sig => iprop(∃ κ : ℕ, cellInv ER (Rd m) κ ((p.1 : Thread nD τ), p.2))),
    ← bigSep_univ_prod (fun p : Dev nD × SemLoc sig => (reached ER ((p.1 : Thread nD τ), p.2) 0 : sProp 𝕄))]
  iintro ⟨HI, #HR, Hat, Htok⟩
  ihave HK := (BI.bigSep_exists_pi Finset.univ (fun (p : Dev nD × SemLoc sig) (κ : ℕ) => (cellInv ER (Rd m) κ ((p.1 : Thread nD τ), p.2) : sProp 𝕄))) $$ HI
  icases HK with ⟨%K, #HI⟩
  have h : iprop(recs' m K ∗ bigSep Finset.univ fun c : Dev nD => iprop(posAll c (fun _ => 0) ∗ toksOf c)) ⊢ (bigSep Finset.univ (G' m) : sProp 𝕄) :=
    (sep_mono_left (BI.bigSep_of_persistent Finset.univ (recs' m K))).trans (by
      rw [← bigSep_sep']
      refine bigSep_mono fun c _ => (show _ ⊢ (_ : sProp 𝕄) from ?_)
      unfold G'
      iintro H
      iexists K
      iexact H)
  iapply h
  isplitr
  · unfold recs'
    isplitr
    · iexact HI
    · iexact HR
  rw [bigSep_sep']
  isplitl [Hat] <;> iassumption

/-- All devices' semaphores become the schedule's at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed is what is promised -/

/-- A family of contributions that every device owes its partner's semaphores, chunk by chunk. -/
theorem promised (f : Fin 16 → Dev nD → Dev nD) (h : ∀ k c, f k (f k c) = c) (κ : Fin 16 → Kd) (hκ : ∀ k, amt (κ k) = N) (c : Dev nD) :
    (Pipeline.launchCred (fun d => ∑ k ∈ rem 0, tallyAt (cell (f k d) (κ k)) () N) c : sProp 𝕄) ⊢ bigSep Finset.univ fun k => crd c (κ k) := by
  rw [Pipeline.launchCred_sum, rem_start]
  refine bigSep_mono fun k _ => (show _ ⊢ (_ : sProp 𝕄) from ?_)
  unfold crd
  rw [hκ]
  exact Pipeline.launchCred_tallyAt (κ k).loc (f k) (f k) (h k) (h k) () N c

/-- A signal that every device owes its partner. -/
theorem promised_bar (f : Dev nD → Dev nD) (h : ∀ c, f (f c) = c) (c : Dev nD) :
    (Pipeline.launchCred (fun d => tallyAt (cell (f d) .bar) () 1) c : sProp 𝕄) ⊢ cred (tallyAt (cell c .bar) () 1) :=
  Pipeline.launchCred_tallyAt Kd.bar.loc f f h h () 1 c

/-- At the launch every device is promised all that the others owe it. -/
theorem creds (c : Dev nD) : (Pipeline.launchCred O₀ c : sProp 𝕄) ⊢ crdsOf c := by
  have hO : (Pipeline.launchCred O₀ c : sProp 𝕄)
      = Pipeline.launchCred (fun d => (((((owT d 0 + owX d 0) + owZ d 0) + owY d 0) + tallyAt (cell (zp d) .bar) () 1)
          + tallyAt (cell (xp d) .bar) () 1) + tallyAt (cell (yp d) .bar) () 1) c := rfl
  rw [hO, Pipeline.launchCred_add, Pipeline.launchCred_add, Pipeline.launchCred_add, Pipeline.launchCred_add, Pipeline.launchCred_add, Pipeline.launchCred_add]
  unfold crdsOf
  have hY := promised (F := F) (fun _ => yp) (fun _ => yp_yp) (fun k => .yr k) (fun _ => rfl) c
  have hX := promised (F := F) (fun _ => xp) (fun _ => xp_xp) (fun k => .xr k) (fun _ => rfl) c
  have hZ := promised (F := F) (fun _ => zp) (fun _ => zp_zp) (fun k => .zr k) (fun _ => rfl) c
  have hT := promised (F := F) tp tp_tp (fun k => .tr k) (fun _ => rfl) c
  have h3 : (tallyAt (cell c .bar) () 3 : CellTallies nD τ sig Unit) = tallyAt (cell c .bar) () 1 + tallyAt (cell c .bar) () 1 + tallyAt (cell c .bar) () 1 := by
    rw [tallyAt_add, tallyAt_add]
  iintro ⟨⟨⟨⟨⟨⟨HT, HX⟩, HZ⟩, HY⟩, H1⟩, H2⟩, H3⟩
  isplitl [HY]; · iapply hY; iexact HY
  isplitl [HX]; · iapply hX; iexact HX
  isplitl [HZ]; · iapply hZ; iexact HZ
  isplitl [HT]; · iapply hT; iexact HT
  rw [h3]
  iapply (cred_add _ _).2
  isplitl [H1 H2]
  · iapply (cred_add _ _).2
    isplitl [H1]
    · iapply (promised_bar zp zp_zp c); iexact H1
    · iapply (promised_bar xp xp_xp c); iexact H2
  · iapply (promised_bar yp yp_yp c); iexact H3

end Cert.A2A
-- ==== Proof.Run.lean ====
/-
The kernel on the whole mesh: launched on all eight devices it ends on each of them, with the result at its final contents,
the argument unchanged and every semaphore at zero.
-/
module

public import proofs.«01_k».proof.Proof.Start
public import Idealize.ShloMosaic.Lib.Pipeline.CollectiveSegs

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## What a device holds around the kernel -/

/-- The argument and the result of device `c`. -/
def hbm (c : Dev nD) (f : Buf (Elt F) ((c : Thread nD τ).loc main_v1)) : sProp 𝕄 :=
  iprop(((c : Thread nD τ).loc main_arg0 ↦{fullShare} X m c) ∗ ((c : Thread nD τ).loc main_v1 ↦{fullShare} f))

/-- What device `c` is given at the launch. -/
def start (c : Dev nD) : sProp 𝕄 :=
  iprop((∃ K, recs m K ∗ posAll c (fun _ => 0) ∗ toksOf c) ∗ crdsOf c ∗ hbm m c (out0 m c))

/-- What it holds before the kernel, and after it. -/
def Φ₀ (c : Dev nD) : sProp 𝕄 := iprop(start m c ∗ vAll c)
/-- What it holds after the kernel: its semaphores at zero, its argument and its final result. -/
def Φ₁ (c : Dev nD) : sProp 𝕄 :=
  iprop((bigSep Finset.univ fun s : SemLoc sig => semVal ((c : Thread nD τ), s) 0) ∗ hbm m c (outF m c) ∗ vAll c)

/-- The kernel as a pipeline of one point and no window. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The kernel's body on device `c`. -/
theorem sound_body (c : Dev nD) (Q : sProp 𝕄) (hQ : iprop(Φ₁ m c ∗ ow c 0) ⊢ Q) :
    iprop(Φ₀ m c ∗ ow c (O₀ c))
      ⊢ wp frame (wpE (defs₀ (F := F)) 𝒱₀ (c : Thread nD τ) none) Set.univ
          (.op .deviceId (fun d => run (ops (raw d)))) fun _ => Q := by
  rw [wp_deviceId, raw_eq]
  unfold Φ₀ start hbm
  iintro ⟨⟨⟨⟨%K, #HR, Hp, Ht⟩, Hc, HA, HO⟩, HV⟩, Ho⟩
  have h : iprop(recs m K ∗ WP c (ops (lay c)) iprop(ow c 0 ∗ posAll c rounds ∗ memEnd m c))
      ⊢ wp frame (wpE (defs₀ (F := F)) 𝒱₀ (c : Thread nD τ) none) Set.univ (run (ops (lay c))) fun _ => Q := by
    refine (wp_frame_l (R := recs m K) frame (wpE (defs₀ (F := F)) 𝒱₀ (c : Thread nD τ) none) Set.univ).trans (BIBase.Entails.trans (wp_mono _ _ _ fun _ => ?_) (wp_fupd _ _ _ _ _))
    unfold memEnd
    iintro ⟨HR, HO, Hp, HA, Hr, HV⟩
    imod (close_all m K c) $$ [HR Hp] with Hs
    · isplitl [HR] <;> iassumption
    imodintro
    iapply hQ
    unfold Φ₁ hbm
    isplitr [HO]
    · isplitl [Hs]; · iexact Hs
      isplitr [HV]
      · isplitl [HA] <;> iassumption
      · iexact HV
    · iexact HO
  iapply h
  isplitr; · iexact HR
  iapply (run_dev m K c)
  isplitr; · iexact HR
  isplitl [Ho]; · iexact Ho
  isplitl [Hp]; · iexact Hp
  isplitl [Ht]; · iexact Ht
  isplitl [Hc]; · iexact Hc
  unfold memStart
  isplitl [HA]; · iexact HA
  isplitl [HO] <;> iassumption

/-- What the launch runs is the text. -/
theorem body_at : defs₀ (F := F) .tc cfg0.body (cfg0.bodyArgs t0_0 (cfg0.slots t0_0)) = .op .deviceId (fun d => run (ops (raw d))) := by
  rw [← body_eq]
  rfl

/-- The same as the launch asks for it. -/
theorem body_obligation (c : Dev nD) : BodyObligation (dats (F := F) m 0 c) (defs₀ (F := F)) 𝒱₀ () Set.univ := fun t => by
  rw [fin_N0 t]
  have e (Ψ : Fin cfg0.W → sProp 𝕄) : bigSep Finset.univ Ψ = iprop(emp) := BI.bigSep_empty
  rw [e, e]
  rw [body_at, show (dats m 0 c).Φ t0_0.castSucc = Φ₀ m c from rfl, show (dats m 0 c).Φ t0_0.succ = Φ₁ m c from rfl]
  have h₁ : iprop(Φ₀ m c ∗ (dats m 0 c).owesAt () t0_0.castSucc ∗ emp) ⊢ iprop(Φ₀ m c ∗ ow c (O₀ c)) := by
    unfold Dat.owesAt Pipeline.owesWithin ow
    iintro ⟨HΦ, ⟨%W, -, HO⟩, -⟩
    isplitl [HΦ]; · iexact HΦ
    iexists W; iexact HO
  have h₂ : iprop(Φ₁ m c ∗ ow c 0) ⊢ iprop(Φ₁ m c ∗ (dats m 0 c).owesAt () t0_0.succ ∗ emp) := by
    unfold Dat.owesAt Pipeline.owesWithin ow
    iintro ⟨HΦ, %W, HO⟩
    isplitl [HΦ]; · iexact HΦ
    isplitl
    · iexists W
      isplitr; · ipureintro; exact fun _ _ => Or.inl trivial
      iexact HO
    · iempintro
  refine Eq.mp ?_ (h₁.trans (sound_body m c _ h₂))
  congr 1

/-! ## The launch -/

/-- The launch gives each device what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' hbm
  iintro ⟨HM, Hlev, Hcr, -, ⟨%K, HR, Hp, Ht⟩⟩
  ihave Hc := (creds (F := F) c) $$ Hcr
  imodintro
  isplitl
  · isplitl [Hlev HR Hp Ht]
    · iexists K
      isplitl [Hlev HR]
      · unfold recs recs'
        icases HR with ⟨H1, H2⟩
        isplitl [H1]; · iexact H1
        isplitl [H2] <;> iassumption
      isplitl [Hp] <;> iassumption
    isplitl [Hc]; · iexact Hc
    iexact HM
  · iempintro

/-- With its staging buffer that is what it holds before the kernel. -/
theorem phi_start (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ vAll
  iintro ⟨Hs, -, HV⟩
  isplitl [Hs] <;> iassumption

/-- What is left of a device after the kernel. -/
def after (c : Dev nD) : sProp 𝕄 := iprop(unscopedSems0 c ∗ hbm m c (outF m c))

/-- After the kernel its semaphores, the argument, the result and the staging buffer are given back. -/
theorem phi_end (c : Dev nD) :
    (dats m 0 c).Φ (Fin.last cfg0.N) ⊢ iprop(after m c ∗ Pipeline.ownSems0 osem c ∗ Pipeline.scopedRest cfg0.spec c) := by
  rw [show (dats m 0 c).Φ (Fin.last cfg0.N) = Φ₁ m c from rfl, scopedRest0_eq]
  unfold Φ₁ after vAll
  rw [← sems_eq]
  iintro ⟨⟨Ho, Hu⟩, HM, HV⟩
  isplitl [Hu HM]
  · isplitl [Hu] <;> iassumption
  isplitl [Ho] <;> iassumption

/-- What is seen of a device at the end: the barrier at zero, the argument as it was, the result at its final contents. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg0) = X m c ∧ s.mem ((c : Thread nD τ).loc main_v1) = outF m c

/-- What is left of a device says what is seen of it. -/
theorem see (c : Dev nD) (s' : Phys nD τ sig (Elt F)) :
    iprop(after m c ∗ emp ∗ SI s') ⊢ |={Set.univ}=> (iprop(⌜Seen m c s'.mem⌝ ∗ SI s') : sProp 𝕄) := by
  unfold after hbm
  iintro ⟨⟨Hu, HA, HO⟩, -, HSI⟩
  icombine HSI HA gives %hA
  icombine HSI HO gives %hO
  imod (Pipeline.unscopedSems0_read (X := unscopedSems0 c) (c := c) fupd_intro s') $$ [Hu HSI] with ⟨%h, HSI⟩
  · isplitl [Hu] <;> iassumption
  imodintro
  isplitr
  · ipureintro
    exact ⟨h, Buf.eq_of_forall_mem_univ hA, Buf.eq_of_forall_mem_univ hO⟩
  · iexact HSI

/-- From any memory with the semaphores at zero the kernel on the eight devices ends, whatever the order in which the devices
    and the copies proceed: on every device the argument is as it was, the result at its final contents, and every semaphore at
    zero. -/
theorem run_main :
    θ_run defs (onTc (τ := τ) (main (F := F))) ⟨m, fun _ => 0, ρ⟩ (fun r =>
      (∀ c : Dev nD, r.2.mem ((c : Thread nD τ).loc main_arg0) = X m c ∧ r.2.mem ((c : Thread nD τ).loc main_v1) = outF m c)
        ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w s t => w.elim0)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := after m) (Z := fun _ => iprop(emp))
    (hX := start_intro m ρ) (hin := phi_start m) (hout := phi_end m)
    (QY := Seen m) (hY := see m)
    (hQ := fun _ h hs => ⟨fun c => (h c).2.2.2, sem_eq_zero hs fun c => (h c).2.2.1⟩)

end Cert.A2A
-- ==== Proof.Value.lean ====
/- The value on the mesh: when every device holds its block of rows of one whole array, each device ends with its
   block of columns of that array. -/
module

public import proofs.«01_k».proof.Proof.Run

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The device whose rows a device ends with at row `r` has `r / 16384` as its y coordinate. -/
theorem yc_origin (c : Dev nD) (r : ℕ) (hr : r < 32768) : yc (origin c r) = r / 16384 := by
  unfold origin
  split
  · omega
  · have hc := yc_lt c
    show (4 * (r % 16384 / 4096 / 2) + 2 * (1 - yc c) + r % 16384 / 4096 % 2) / 2 % 2 = r / 16384
    omega

/-- The block a device holds along a dimension cut along the y axis is its y coordinate. -/
theorem cut_y (c : Dev nD) : Layout.meshLin [2, 2, 2] c.val [1] = yc c := by
  revert c; decide

/-- Where an element of a block of rows lies in the whole array. -/
theorem rows_idx (c : Dev nD) (h : Layout.TilesN ⟨2, ![16384, 2048]⟩ ⟨2, ![32768, 2048]⟩ fun b => Layout.cutSize [2, 2, 2] (![[1], []] b))
    (j : S16384x2048.Idx) :
    (h.idx (Layout.meshBlock [2, 2, 2] ![[1], []] c) j 0).val = yc c * 16384 + (j 0).val
      ∧ (h.idx (Layout.meshBlock [2, 2, 2] ![[1], []] c) j 1).val = 0 * 2048 + (j 1).val :=
  ⟨congrArg (fun y => y * 16384 + (j 0).val) (cut_y c), rfl⟩

/-- Where an element of a block of columns lies in the whole array. -/
theorem cols_idx (c : Dev nD) (h : Layout.TilesN ⟨2, ![32768, 1024]⟩ ⟨2, ![32768, 2048]⟩ fun b => Layout.cutSize [2, 2, 2] (![[], [1]] b))
    (i : S32768x1024.Idx) :
    (h.idx (Layout.meshBlock [2, 2, 2] ![[], [1]] c) i 0).val = 0 * 32768 + (i 0).val
      ∧ (h.idx (Layout.meshBlock [2, 2, 2] ![[], [1]] c) i 1).val = yc c * 1024 + (i 1).val :=
  ⟨rfl, congrArg (fun y => y * 1024 + (i 1).val) (cut_y c)⟩

/-- From blocks of rows to blocks of columns: if each device's argument is its block of rows of `v`, what each device
    ends with is its block of columns of `v`. -/
theorem outF_block (m : (ℓ : Loc nD τ sig) → Buf (Elt F) ℓ) (v : (⟨2, ![32768, 2048]⟩ : Shape).Idx → Elt F .f32)
    (h : ∀ c : Dev nD, X m c = Layout.blockN ⟨2, ![16384, 2048]⟩ ⟨2, ![32768, 2048]⟩ (Layout.meshBlock [2, 2, 2] ![[1], []] c) v) (c : Dev nD) :
    outF m c = Layout.blockN ⟨2, ![32768, 1024]⟩ ⟨2, ![32768, 2048]⟩ (Layout.meshBlock [2, 2, 2] ![[], [1]] c) v := by
  funext i
  have hi : (i 0).val < 32768 := (i 0).isLt
  have hy := yc_origin c (i 0).val hi
  unfold outF
  rw [h, Layout.blockN_apply, Layout.blockN_apply]
  refine congrArg v (funext fun b => Fin.ext ?_)
  fin_cases b
  · refine (rows_idx (origin c (i 0).val) _ _).1.trans (Eq.trans ?_ (cols_idx c _ i).1.symm)
    show yc (origin c (i 0).val) * 16384 + (i 0).val % 16384 = _
    rw [hy]
    omega
  · refine (rows_idx (origin c (i 0).val) _ _).2.trans (Eq.trans ?_ (cols_idx c _ i).2.symm)
    show 0 * 2048 + (1024 * yc c + (i 1).val) = _
    omega

end Cert.A2A
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem

/-- The kernel at the machine's own floats ends on every device with its argument unchanged and every semaphore at zero. -/
theorem frame_kernel : Cert.quiescent_Kernel := fun m ρ _ =>
  (θ_run Cert.KernelIdeal.defs _ _).mono (fun _ h => ⟨fun c => (h.1 c).1, h.2⟩) (Cert.A2A.run_main (F := Bits) m ρ)

/-- The kernel at the extended reals does the same. -/
theorem frame_kernelIdeal : Cert.quiescent_KernelIdeal := fun m ρ _ =>
  (θ_run Cert.KernelIdeal.defs _ _).mono (fun _ h => ⟨fun c => (h.1 c).1, h.2⟩) (Cert.A2A.run_main (F := Ideal) m ρ)

/-- So does the reference on its one device. -/
theorem frame_referenceIdeal : Cert.quiescent_ReferenceIdeal := fun m ρ _ => Cert.A2A.Ref.run_main m ρ

/-- Each device's result is its block of columns of the reference's array. -/
theorem value : Cert.algebraic_KernelIdeal_ReferenceIdeal := fun m ρ m' ρ' _ h =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ hr c => ⟨(hr.1 c).2.trans (Cert.A2A.outF_block m _ h c), (hr.1 c).1⟩) (Cert.A2A.run_main (F := Ideal) m ρ),
    (θ_run Cert.ReferenceIdeal.defs _ _).mono (fun _ hr => ⟨hr.1 0, hr.1 0⟩) (Cert.A2A.Ref.run_main m' ρ')⟩

/-- The five claims. -/
theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
